-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x1024 : Shape := ⟨2, ![1024, 1024]⟩
abbrev S8 : Shape := ⟨1, ![8]⟩
abbrev S8x8 : Shape := ⟨2, ![8, 8]⟩
abbrev S1 : Shape := ⟨1, ![1]⟩
abbrev S_ : Shape := ⟨0, ![]⟩
abbrev S1024x128 : Shape := ⟨2, ![1024, 128]⟩
abbrev S1x1 : Shape := ⟨2, ![1, 1]⟩
abbrev S512x128 : Shape := ⟨2, ![512, 128]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .local _ .vmem, ⟨0, _⟩ => ⟨S1024x1024, .f32⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 144 → Bool
  | ⟨i, _⟩ => dmaSemScopedAt i

abbrev sig : RefSig :=
  (ofTc nBuf bufTy 1 144 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) (c7_i32 : BitVec 32) : Fin 2 → Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.muli v2 c0_i32
  let c1_i32_14 : BitVec 32 := 1#32
  let v26 : BitVec 32 := Scalar.subi c1_i32_14 v2
  let v27 : BitVec 32 := Scalar.muli v26 c7_i32
  let v28 : BitVec 32 := Scalar.addi v25 v27
  let c128_i32 : BitVec 32 := 128#32
  let v29 : BitVec 32 := Scalar.muli v28 c128_i32
  ![0, v29.toNat]
def k0_off1_at (r : Fin 8) : BitVec 32 × BitVec 32 :=
  if r.val < 4 then
    if r.val < 2 then
      if r.val < 1 then
        (0#32, 7#32)
      else
        (1#32, 6#32)
    else
      if r.val < 3 then
        (2#32, 5#32)
      else
        (3#32, 4#32)
  else
    if r.val < 6 then
      if r.val < 5 then
        (4#32, 3#32)
      else
        (5#32, 2#32)
    else
      if r.val < 7 then
        (6#32, 1#32)
      else
        (7#32, 0#32)
def k0_off2 (d0 : Dev nD) (c0_i32 : BitVec 32) (c7_i32 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v30 : BitVec 32 := Scalar.muli v13 c1024_i32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.muli v2 c0_i32
  let c1_i32_14 : BitVec 32 := 1#32
  let v26 : BitVec 32 := Scalar.subi c1_i32_14 v2
  let v27 : BitVec 32 := Scalar.muli v26 c7_i32
  let v28 : BitVec 32 := Scalar.addi v25 v27
  let c128_i32 : BitVec 32 := 128#32
  let v29 : BitVec 32 := Scalar.muli v28 c128_i32
  ![v30.toNat, v29.toNat]
def k0_off2_at (r : Fin 8) : BitVec 32 × BitVec 32 :=
  if r.val < 4 then
    if r.val < 2 then
      if r.val < 1 then
        (0#32, 7#32)
      else
        (1#32, 6#32)
    else
      if r.val < 3 then
        (2#32, 5#32)
      else
        (3#32, 4#32)
  else
    if r.val < 6 then
      if r.val < 5 then
        (4#32, 3#32)
      else
        (5#32, 2#32)
    else
      if r.val < 7 then
        (6#32, 1#32)
      else
        (7#32, 0#32)
def k0_dev1 (d0 : Dev nD) : Nat :=
  let c0_i32_65 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_64 : BitVec 32 := 4#32
  let v106 : BitVec 32 := Scalar.muli v9 c4_i32_64
  let v107 : BitVec 32 := Scalar.addi c0_i32_65 v106
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_66 : BitVec 32 := 2#32
  let v108 : BitVec 32 := Scalar.muli v5 c2_i32_66
  let v109 : BitVec 32 := Scalar.addi v107 v108
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_67 : BitVec 32 := 1#32
  let v110 : BitVec 32 := Scalar.muli v8 c1_i32_67
  let v111 : BitVec 32 := Scalar.addi v109 v110
  v111.toNat
def k0_dev2 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_69 : BitVec 32 := 4#32
  let v112 : BitVec 32 := Scalar.muli v2 c4_i32_69
  let v113 : BitVec 32 := Scalar.addi c0_i32_70 v112
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_71 : BitVec 32 := 2#32
  let v114 : BitVec 32 := Scalar.muli v10 c2_i32_71
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_72 : BitVec 32 := 1#32
  let v116 : BitVec 32 := Scalar.muli v8 c1_i32_72
  let v117 : BitVec 32 := Scalar.addi v115 v116
  v117.toNat
def k0_dev3 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v118 : BitVec 32 := Scalar.muli v2 c4_i32_74
  let v119 : BitVec 32 := Scalar.addi c0_i32_75 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v120 : BitVec 32 := Scalar.muli v5 c2_i32_76
  let v121 : BitVec 32 := Scalar.addi v119 v120
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_77 : BitVec 32 := 1#32
  let v122 : BitVec 32 := Scalar.muli v11 c1_i32_77
  let v123 : BitVec 32 := Scalar.addi v121 v122
  v123.toNat
def k0_off3 (d0 : Dev nD) (c0_i32_79 : BitVec 32) (c7_i32_81 : BitVec 32) : Fin 2 → Nat :=
  let c0 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v124 : BitVec 32 := Scalar.muli v2 c0_i32_79
  let c1_i32_80 : BitVec 32 := 1#32
  let v125 : BitVec 32 := Scalar.subi c1_i32_80 v2
  let v126 : BitVec 32 := Scalar.muli v125 c7_i32_81
  let v127 : BitVec 32 := Scalar.addi v124 v126
  let c128_i32_82 : BitVec 32 := 128#32
  let v128 : BitVec 32 := Scalar.muli v127 c128_i32_82
  let v133 : Index := Scalar.indexCast v128
  ![0, v133.toNat]
def k0_off3_at (r : Fin 8) : BitVec 32 × BitVec 32 :=
  if r.val < 4 then
    if r.val < 2 then
      if r.val < 1 then
        (0#32, 7#32)
      else
        (1#32, 6#32)
    else
      if r.val < 3 then
        (2#32, 5#32)
      else
        (3#32, 4#32)
  else
    if r.val < 6 then
      if r.val < 5 then
        (4#32, 3#32)
      else
        (5#32, 2#32)
    else
      if r.val < 7 then
        (6#32, 1#32)
      else
        (7#32, 0#32)
def k0_dev4 (d0 : Dev nD) : Nat :=
  let c0_i32_91 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_90 : BitVec 32 := 4#32
  let v140 : BitVec 32 := Scalar.muli v9 c4_i32_90
  let v141 : BitVec 32 := Scalar.addi c0_i32_91 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_92 : BitVec 32 := 2#32
  let v142 : BitVec 32 := Scalar.muli v5 c2_i32_92
  let v143 : BitVec 32 := Scalar.addi v141 v142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v144 : BitVec 32 := Scalar.muli v8 c1_i32_93
  let v145 : BitVec 32 := Scalar.addi v143 v144
  v145.toNat
def k0_dev5 (d0 : Dev nD) : Nat :=
  let c0_i32_109 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_108 : BitVec 32 := 4#32
  let v168 : BitVec 32 := Scalar.muli v9 c4_i32_108
  let v169 : BitVec 32 := Scalar.addi c0_i32_109 v168
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_110 : BitVec 32 := 2#32
  let v170 : BitVec 32 := Scalar.muli v5 c2_i32_110
  let v171 : BitVec 32 := Scalar.addi v169 v170
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v172 : BitVec 32 := Scalar.muli v8 c1_i32_111
  let v173 : BitVec 32 := Scalar.addi v171 v172
  v173.toNat
def k0_dev6 (d0 : Dev nD) : Nat :=
  let c0_i32_127 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_126 : BitVec 32 := 4#32
  let v196 : BitVec 32 := Scalar.muli v9 c4_i32_126
  let v197 : BitVec 32 := Scalar.addi c0_i32_127 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_128 : BitVec 32 := 2#32
  let v198 : BitVec 32 := Scalar.muli v5 c2_i32_128
  let v199 : BitVec 32 := Scalar.addi v197 v198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_129 : BitVec 32 := 1#32
  let v200 : BitVec 32 := Scalar.muli v8 c1_i32_129
  let v201 : BitVec 32 := Scalar.addi v199 v200
  v201.toNat
def k0_dev7 (d0 : Dev nD) : Nat :=
  let c0_i32_145 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_144 : BitVec 32 := 4#32
  let v224 : BitVec 32 := Scalar.muli v9 c4_i32_144
  let v225 : BitVec 32 := Scalar.addi c0_i32_145 v224
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_146 : BitVec 32 := 2#32
  let v226 : BitVec 32 := Scalar.muli v5 c2_i32_146
  let v227 : BitVec 32 := Scalar.addi v225 v226
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_147 : BitVec 32 := 1#32
  let v228 : BitVec 32 := Scalar.muli v8 c1_i32_147
  let v229 : BitVec 32 := Scalar.addi v227 v228
  v229.toNat
def k0_dev8 (d0 : Dev nD) : Nat :=
  let c0_i32_163 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_162 : BitVec 32 := 4#32
  let v252 : BitVec 32 := Scalar.muli v9 c4_i32_162
  let v253 : BitVec 32 := Scalar.addi c0_i32_163 v252
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_164 : BitVec 32 := 2#32
  let v254 : BitVec 32 := Scalar.muli v5 c2_i32_164
  let v255 : BitVec 32 := Scalar.addi v253 v254
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_165 : BitVec 32 := 1#32
  let v256 : BitVec 32 := Scalar.muli v8 c1_i32_165
  let v257 : BitVec 32 := Scalar.addi v255 v256
  v257.toNat
def k0_dev9 (d0 : Dev nD) : Nat :=
  let c0_i32_181 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_180 : BitVec 32 := 4#32
  let v280 : BitVec 32 := Scalar.muli v9 c4_i32_180
  let v281 : BitVec 32 := Scalar.addi c0_i32_181 v280
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_182 : BitVec 32 := 2#32
  let v282 : BitVec 32 := Scalar.muli v5 c2_i32_182
  let v283 : BitVec 32 := Scalar.addi v281 v282
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_183 : BitVec 32 := 1#32
  let v284 : BitVec 32 := Scalar.muli v8 c1_i32_183
  let v285 : BitVec 32 := Scalar.addi v283 v284
  v285.toNat
def k0_dev10 (d0 : Dev nD) : Nat :=
  let c0_i32_199 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_198 : BitVec 32 := 4#32
  let v308 : BitVec 32 := Scalar.muli v9 c4_i32_198
  let v309 : BitVec 32 := Scalar.addi c0_i32_199 v308
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_200 : BitVec 32 := 2#32
  let v310 : BitVec 32 := Scalar.muli v5 c2_i32_200
  let v311 : BitVec 32 := Scalar.addi v309 v310
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_201 : BitVec 32 := 1#32
  let v312 : BitVec 32 := Scalar.muli v8 c1_i32_201
  let v313 : BitVec 32 := Scalar.addi v311 v312
  v313.toNat
def k0_dev11 (d0 : Dev nD) : Nat :=
  let c0_i32_217 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_216 : BitVec 32 := 4#32
  let v336 : BitVec 32 := Scalar.muli v9 c4_i32_216
  let v337 : BitVec 32 := Scalar.addi c0_i32_217 v336
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_218 : BitVec 32 := 2#32
  let v338 : BitVec 32 := Scalar.muli v5 c2_i32_218
  let v339 : BitVec 32 := Scalar.addi v337 v338
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_219 : BitVec 32 := 1#32
  let v340 : BitVec 32 := Scalar.muli v8 c1_i32_219
  let v341 : BitVec 32 := Scalar.addi v339 v340
  v341.toNat
def k0_off4 (d0 : Dev nD) (c0_i32_240 : BitVec 32) (c7_i32_241 : BitVec 32) : Fin 2 → Nat :=
  let c0_243 : Index := 0#32
  let c1_i32_239 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v362 : BitVec 32 := Scalar.subi c1_i32_239 v2
  let v363 : BitVec 32 := Scalar.muli v362 c0_i32_240
  let v364 : BitVec 32 := Scalar.muli v2 c7_i32_241
  let v365 : BitVec 32 := Scalar.addi v363 v364
  let c128_i32_242 : BitVec 32 := 128#32
  let v366 : BitVec 32 := Scalar.muli v365 c128_i32_242
  let v367 : Index := Scalar.indexCast v366
  ![0, v367.toNat]
def k0_off4_at (r : Fin 8) : BitVec 32 × BitVec 32 :=
  if r.val < 4 then
    if r.val < 2 then
      if r.val < 1 then
        (0#32, 7#32)
      else
        (1#32, 6#32)
    else
      if r.val < 3 then
        (2#32, 5#32)
      else
        (3#32, 4#32)
  else
    if r.val < 6 then
      if r.val < 5 then
        (4#32, 3#32)
      else
        (5#32, 2#32)
    else
      if r.val < 7 then
        (6#32, 1#32)
      else
        (7#32, 0#32)
def k0_off5 (d0 : Dev nD) (c0_i32_240 : BitVec 32) (c7_i32_241 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_246 : BitVec 32 := 1024#32
  let v376 : BitVec 32 := Scalar.muli v13 c1024_i32_246
  let c1_i32_239 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v362 : BitVec 32 := Scalar.subi c1_i32_239 v2
  let v363 : BitVec 32 := Scalar.muli v362 c0_i32_240
  let v364 : BitVec 32 := Scalar.muli v2 c7_i32_241
  let v365 : BitVec 32 := Scalar.addi v363 v364
  let c128_i32_242 : BitVec 32 := 128#32
  let v366 : BitVec 32 := Scalar.muli v365 c128_i32_242
  ![v376.toNat, v366.toNat]
def k0_off5_at (r : Fin 8) : BitVec 32 × BitVec 32 :=
  if r.val < 4 then
    if r.val < 2 then
      if r.val < 1 then
        (0#32, 7#32)
      else
        (1#32, 6#32)
    else
      if r.val < 3 then
        (2#32, 5#32)
      else
        (3#32, 4#32)
  else
    if r.val < 6 then
      if r.val < 5 then
        (4#32, 3#32)
      else
        (5#32, 2#32)
    else
      if r.val < 7 then
        (6#32, 1#32)
      else
        (7#32, 0#32)
def k0_off6 (d0 : Dev nD) (c0_i32_240 : BitVec 32) (c7_i32_241 : BitVec 32) : Fin 2 → Nat :=
  let c0_i32_248 : BitVec 32 := 0#32
  let c1_i32_239 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v362 : BitVec 32 := Scalar.subi c1_i32_239 v2
  let v363 : BitVec 32 := Scalar.muli v362 c0_i32_240
  let v364 : BitVec 32 := Scalar.muli v2 c7_i32_241
  let v365 : BitVec 32 := Scalar.addi v363 v364
  let c128_i32_242 : BitVec 32 := 128#32
  let v366 : BitVec 32 := Scalar.muli v365 c128_i32_242
  ![0, v366.toNat]
def k0_off6_at (r : Fin 8) : BitVec 32 × BitVec 32 :=
  if r.val < 4 then
    if r.val < 2 then
      if r.val < 1 then
        (0#32, 7#32)
      else
        (1#32, 6#32)
    else
      if r.val < 3 then
        (2#32, 5#32)
      else
        (3#32, 4#32)
  else
    if r.val < 6 then
      if r.val < 5 then
        (4#32, 3#32)
      else
        (5#32, 2#32)
    else
      if r.val < 7 then
        (6#32, 1#32)
      else
        (7#32, 0#32)
def k0_dev12 (d0 : Dev nD) : Nat :=
  let c0_i32_255 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_254 : BitVec 32 := 4#32
  let v382 : BitVec 32 := Scalar.muli v2 c4_i32_254
  let v383 : BitVec 32 := Scalar.addi c0_i32_255 v382
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_256 : BitVec 32 := 2#32
  let v384 : BitVec 32 := Scalar.muli v10 c2_i32_256
  let v385 : BitVec 32 := Scalar.addi v383 v384
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_257 : BitVec 32 := 1#32
  let v386 : BitVec 32 := Scalar.muli v8 c1_i32_257
  let v387 : BitVec 32 := Scalar.addi v385 v386
  v387.toNat
def k0_dev13 (d0 : Dev nD) : Nat :=
  let c0_i32_264 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_263 : BitVec 32 := 4#32
  let v394 : BitVec 32 := Scalar.muli v2 c4_i32_263
  let v395 : BitVec 32 := Scalar.addi c0_i32_264 v394
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_265 : BitVec 32 := 2#32
  let v396 : BitVec 32 := Scalar.muli v5 c2_i32_265
  let v397 : BitVec 32 := Scalar.addi v395 v396
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_266 : BitVec 32 := 1#32
  let v398 : BitVec 32 := Scalar.muli v11 c1_i32_266
  let v399 : BitVec 32 := Scalar.addi v397 v398
  v399.toNat
def k0_dev14 (d0 : Dev nD) : Nat :=
  let c0_i32_301 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_300 : BitVec 32 := 4#32
  let v440 : BitVec 32 := Scalar.muli v2 c4_i32_300
  let v441 : BitVec 32 := Scalar.addi c0_i32_301 v440
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_302 : BitVec 32 := 2#32
  let v442 : BitVec 32 := Scalar.muli v10 c2_i32_302
  let v443 : BitVec 32 := Scalar.addi v441 v442
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_303 : BitVec 32 := 1#32
  let v444 : BitVec 32 := Scalar.muli v8 c1_i32_303
  let v445 : BitVec 32 := Scalar.addi v443 v444
  v445.toNat
def k0_dev15 (d0 : Dev nD) : Nat :=
  let c0_i32_310 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_309 : BitVec 32 := 4#32
  let v452 : BitVec 32 := Scalar.muli v2 c4_i32_309
  let v453 : BitVec 32 := Scalar.addi c0_i32_310 v452
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_311 : BitVec 32 := 2#32
  let v454 : BitVec 32 := Scalar.muli v5 c2_i32_311
  let v455 : BitVec 32 := Scalar.addi v453 v454
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_312 : BitVec 32 := 1#32
  let v456 : BitVec 32 := Scalar.muli v11 c1_i32_312
  let v457 : BitVec 32 := Scalar.addi v455 v456
  v457.toNat
def k0_dev16 (d0 : Dev nD) : Nat :=
  let c0_i32_347 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_346 : BitVec 32 := 4#32
  let v498 : BitVec 32 := Scalar.muli v2 c4_i32_346
  let v499 : BitVec 32 := Scalar.addi c0_i32_347 v498
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_348 : BitVec 32 := 2#32
  let v500 : BitVec 32 := Scalar.muli v10 c2_i32_348
  let v501 : BitVec 32 := Scalar.addi v499 v500
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_349 : BitVec 32 := 1#32
  let v502 : BitVec 32 := Scalar.muli v8 c1_i32_349
  let v503 : BitVec 32 := Scalar.addi v501 v502
  v503.toNat
def k0_dev17 (d0 : Dev nD) : Nat :=
  let c0_i32_356 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_355 : BitVec 32 := 4#32
  let v510 : BitVec 32 := Scalar.muli v2 c4_i32_355
  let v511 : BitVec 32 := Scalar.addi c0_i32_356 v510
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_357 : BitVec 32 := 2#32
  let v512 : BitVec 32 := Scalar.muli v5 c2_i32_357
  let v513 : BitVec 32 := Scalar.addi v511 v512
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_358 : BitVec 32 := 1#32
  let v514 : BitVec 32 := Scalar.muli v11 c1_i32_358
  let v515 : BitVec 32 := Scalar.addi v513 v514
  v515.toNat
def k0_dev18 (d0 : Dev nD) : Nat :=
  let c0_i32_393 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_392 : BitVec 32 := 4#32
  let v556 : BitVec 32 := Scalar.muli v2 c4_i32_392
  let v557 : BitVec 32 := Scalar.addi c0_i32_393 v556
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_394 : BitVec 32 := 2#32
  let v558 : BitVec 32 := Scalar.muli v10 c2_i32_394
  let v559 : BitVec 32 := Scalar.addi v557 v558
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_395 : BitVec 32 := 1#32
  let v560 : BitVec 32 := Scalar.muli v8 c1_i32_395
  let v561 : BitVec 32 := Scalar.addi v559 v560
  v561.toNat
def k0_dev19 (d0 : Dev nD) : Nat :=
  let c0_i32_402 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_401 : BitVec 32 := 4#32
  let v568 : BitVec 32 := Scalar.muli v2 c4_i32_401
  let v569 : BitVec 32 := Scalar.addi c0_i32_402 v568
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_403 : BitVec 32 := 2#32
  let v570 : BitVec 32 := Scalar.muli v5 c2_i32_403
  let v571 : BitVec 32 := Scalar.addi v569 v570
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_404 : BitVec 32 := 1#32
  let v572 : BitVec 32 := Scalar.muli v11 c1_i32_404
  let v573 : BitVec 32 := Scalar.addi v571 v572
  v573.toNat
def k0_dev20 (d0 : Dev nD) : Nat :=
  let c0_i32_439 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_438 : BitVec 32 := 4#32
  let v614 : BitVec 32 := Scalar.muli v2 c4_i32_438
  let v615 : BitVec 32 := Scalar.addi c0_i32_439 v614
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_440 : BitVec 32 := 2#32
  let v616 : BitVec 32 := Scalar.muli v10 c2_i32_440
  let v617 : BitVec 32 := Scalar.addi v615 v616
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_441 : BitVec 32 := 1#32
  let v618 : BitVec 32 := Scalar.muli v8 c1_i32_441
  let v619 : BitVec 32 := Scalar.addi v617 v618
  v619.toNat
def k0_dev21 (d0 : Dev nD) : Nat :=
  let c0_i32_448 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_447 : BitVec 32 := 4#32
  let v626 : BitVec 32 := Scalar.muli v2 c4_i32_447
  let v627 : BitVec 32 := Scalar.addi c0_i32_448 v626
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_449 : BitVec 32 := 2#32
  let v628 : BitVec 32 := Scalar.muli v5 c2_i32_449
  let v629 : BitVec 32 := Scalar.addi v627 v628
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_450 : BitVec 32 := 1#32
  let v630 : BitVec 32 := Scalar.muli v11 c1_i32_450
  let v631 : BitVec 32 := Scalar.addi v629 v630
  v631.toNat
def k0_dev22 (d0 : Dev nD) : Nat :=
  let c0_i32_485 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_484 : BitVec 32 := 4#32
  let v672 : BitVec 32 := Scalar.muli v2 c4_i32_484
  let v673 : BitVec 32 := Scalar.addi c0_i32_485 v672
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_486 : BitVec 32 := 2#32
  let v674 : BitVec 32 := Scalar.muli v10 c2_i32_486
  let v675 : BitVec 32 := Scalar.addi v673 v674
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_487 : BitVec 32 := 1#32
  let v676 : BitVec 32 := Scalar.muli v8 c1_i32_487
  let v677 : BitVec 32 := Scalar.addi v675 v676
  v677.toNat
def k0_dev23 (d0 : Dev nD) : Nat :=
  let c0_i32_494 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_493 : BitVec 32 := 4#32
  let v684 : BitVec 32 := Scalar.muli v2 c4_i32_493
  let v685 : BitVec 32 := Scalar.addi c0_i32_494 v684
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_495 : BitVec 32 := 2#32
  let v686 : BitVec 32 := Scalar.muli v5 c2_i32_495
  let v687 : BitVec 32 := Scalar.addi v685 v686
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_496 : BitVec 32 := 1#32
  let v688 : BitVec 32 := Scalar.muli v11 c1_i32_496
  let v689 : BitVec 32 := Scalar.addi v687 v688
  v689.toNat
def k0_dev24 (d0 : Dev nD) : Nat :=
  let c0_i32_531 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_530 : BitVec 32 := 4#32
  let v730 : BitVec 32 := Scalar.muli v2 c4_i32_530
  let v731 : BitVec 32 := Scalar.addi c0_i32_531 v730
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_532 : BitVec 32 := 2#32
  let v732 : BitVec 32 := Scalar.muli v10 c2_i32_532
  let v733 : BitVec 32 := Scalar.addi v731 v732
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_533 : BitVec 32 := 1#32
  let v734 : BitVec 32 := Scalar.muli v8 c1_i32_533
  let v735 : BitVec 32 := Scalar.addi v733 v734
  v735.toNat
def k0_dev25 (d0 : Dev nD) : Nat :=
  let c0_i32_540 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_539 : BitVec 32 := 4#32
  let v742 : BitVec 32 := Scalar.muli v2 c4_i32_539
  let v743 : BitVec 32 := Scalar.addi c0_i32_540 v742
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_541 : BitVec 32 := 2#32
  let v744 : BitVec 32 := Scalar.muli v5 c2_i32_541
  let v745 : BitVec 32 := Scalar.addi v743 v744
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_542 : BitVec 32 := 1#32
  let v746 : BitVec 32 := Scalar.muli v11 c1_i32_542
  let v747 : BitVec 32 := Scalar.addi v745 v746
  v747.toNat
def k0_off7 (d0 : Dev nD) (c0_i32_572 : BitVec 32) (c7_i32_573 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_590 : BitVec 32 := 1024#32
  let v806 : BitVec 32 := Scalar.muli v19 c1024_i32_590
  let c1_i32_571 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v787 : BitVec 32 := Scalar.subi c1_i32_571 v2
  let v788 : BitVec 32 := Scalar.muli v787 c0_i32_572
  let v789 : BitVec 32 := Scalar.muli v2 c7_i32_573
  let v790 : BitVec 32 := Scalar.addi v788 v789
  let c128_i32_574 : BitVec 32 := 128#32
  let v791 : BitVec 32 := Scalar.muli v790 c128_i32_574
  ![v806.toNat, v791.toNat]
def k0_off7_at (r : Fin 7) : BitVec 32 × BitVec 32 :=
  if r.val < 3 then
    if r.val < 1 then
      (0#32, 7#32)
    else
      if r.val < 2 then
        (1#32, 6#32)
      else
        (2#32, 5#32)
  else
    if r.val < 5 then
      if r.val < 4 then
        (3#32, 4#32)
      else
        (4#32, 3#32)
    else
      if r.val < 6 then
        (5#32, 2#32)
      else
        (6#32, 1#32)
def k0_dev26 (d0 : Dev nD) : Nat :=
  let c0_i32_596 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_595 : BitVec 32 := 4#32
  let v807 : BitVec 32 := Scalar.muli v2 c4_i32_595
  let v808 : BitVec 32 := Scalar.addi c0_i32_596 v807
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_597 : BitVec 32 := 2#32
  let v809 : BitVec 32 := Scalar.muli v10 c2_i32_597
  let v810 : BitVec 32 := Scalar.addi v808 v809
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_598 : BitVec 32 := 1#32
  let v811 : BitVec 32 := Scalar.muli v8 c1_i32_598
  let v812 : BitVec 32 := Scalar.addi v810 v811
  v812.toNat
def k0_off8 (d0 : Dev nD) (c0_i32_572 : BitVec 32) (c7_i32_573 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_614 : BitVec 32 := 1024#32
  let v833 : BitVec 32 := Scalar.muli v16 c1024_i32_614
  let c512_i32 : BitVec 32 := 512#32
  let v834 : BitVec 32 := Scalar.addi v833 c512_i32
  let c1_i32_571 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v787 : BitVec 32 := Scalar.subi c1_i32_571 v2
  let v788 : BitVec 32 := Scalar.muli v787 c0_i32_572
  let v789 : BitVec 32 := Scalar.muli v2 c7_i32_573
  let v790 : BitVec 32 := Scalar.addi v788 v789
  let c128_i32_574 : BitVec 32 := 128#32
  let v791 : BitVec 32 := Scalar.muli v790 c128_i32_574
  ![v834.toNat, v791.toNat]
def k0_off8_at (r : Fin 7) : BitVec 32 × BitVec 32 :=
  if r.val < 3 then
    if r.val < 1 then
      (0#32, 7#32)
    else
      if r.val < 2 then
        (1#32, 6#32)
      else
        (2#32, 5#32)
  else
    if r.val < 5 then
      if r.val < 4 then
        (3#32, 4#32)
      else
        (4#32, 3#32)
    else
      if r.val < 6 then
        (5#32, 2#32)
      else
        (6#32, 1#32)
def k0_dev27 (d0 : Dev nD) : Nat :=
  let c0_i32_620 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_619 : BitVec 32 := 4#32
  let v835 : BitVec 32 := Scalar.muli v2 c4_i32_619
  let v836 : BitVec 32 := Scalar.addi c0_i32_620 v835
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_621 : BitVec 32 := 2#32
  let v837 : BitVec 32 := Scalar.muli v5 c2_i32_621
  let v838 : BitVec 32 := Scalar.addi v836 v837
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_622 : BitVec 32 := 1#32
  let v839 : BitVec 32 := Scalar.muli v11 c1_i32_622
  let v840 : BitVec 32 := Scalar.addi v838 v839
  v840.toNat
def k0_dev28 (d0 : Dev nD) : Nat :=
  let c0_i32_648 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_647 : BitVec 32 := 4#32
  let v867 : BitVec 32 := Scalar.muli v2 c4_i32_647
  let v868 : BitVec 32 := Scalar.addi c0_i32_648 v867
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_649 : BitVec 32 := 2#32
  let v869 : BitVec 32 := Scalar.muli v10 c2_i32_649
  let v870 : BitVec 32 := Scalar.addi v868 v869
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_650 : BitVec 32 := 1#32
  let v871 : BitVec 32 := Scalar.muli v8 c1_i32_650
  let v872 : BitVec 32 := Scalar.addi v870 v871
  v872.toNat
def k0_dev29 (d0 : Dev nD) : Nat :=
  let c0_i32_673 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_672 : BitVec 32 := 4#32
  let v895 : BitVec 32 := Scalar.muli v2 c4_i32_672
  let v896 : BitVec 32 := Scalar.addi c0_i32_673 v895
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_674 : BitVec 32 := 2#32
  let v897 : BitVec 32 := Scalar.muli v5 c2_i32_674
  let v898 : BitVec 32 := Scalar.addi v896 v897
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_675 : BitVec 32 := 1#32
  let v899 : BitVec 32 := Scalar.muli v11 c1_i32_675
  let v900 : BitVec 32 := Scalar.addi v898 v899
  v900.toNat
def k0_dev30 (d0 : Dev nD) : Nat :=
  let c0_i32_701 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_700 : BitVec 32 := 4#32
  let v927 : BitVec 32 := Scalar.muli v2 c4_i32_700
  let v928 : BitVec 32 := Scalar.addi c0_i32_701 v927
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_702 : BitVec 32 := 2#32
  let v929 : BitVec 32 := Scalar.muli v10 c2_i32_702
  let v930 : BitVec 32 := Scalar.addi v928 v929
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_703 : BitVec 32 := 1#32
  let v931 : BitVec 32 := Scalar.muli v8 c1_i32_703
  let v932 : BitVec 32 := Scalar.addi v930 v931
  v932.toNat
def k0_dev31 (d0 : Dev nD) : Nat :=
  let c0_i32_726 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_725 : BitVec 32 := 4#32
  let v955 : BitVec 32 := Scalar.muli v2 c4_i32_725
  let v956 : BitVec 32 := Scalar.addi c0_i32_726 v955
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_727 : BitVec 32 := 2#32
  let v957 : BitVec 32 := Scalar.muli v5 c2_i32_727
  let v958 : BitVec 32 := Scalar.addi v956 v957
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_728 : BitVec 32 := 1#32
  let v959 : BitVec 32 := Scalar.muli v11 c1_i32_728
  let v960 : BitVec 32 := Scalar.addi v958 v959
  v960.toNat
def k0_dev32 (d0 : Dev nD) : Nat :=
  let c0_i32_754 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_753 : BitVec 32 := 4#32
  let v987 : BitVec 32 := Scalar.muli v2 c4_i32_753
  let v988 : BitVec 32 := Scalar.addi c0_i32_754 v987
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_755 : BitVec 32 := 2#32
  let v989 : BitVec 32 := Scalar.muli v10 c2_i32_755
  let v990 : BitVec 32 := Scalar.addi v988 v989
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_756 : BitVec 32 := 1#32
  let v991 : BitVec 32 := Scalar.muli v8 c1_i32_756
  let v992 : BitVec 32 := Scalar.addi v990 v991
  v992.toNat
def k0_dev33 (d0 : Dev nD) : Nat :=
  let c0_i32_779 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_778 : BitVec 32 := 4#32
  let v1015 : BitVec 32 := Scalar.muli v2 c4_i32_778
  let v1016 : BitVec 32 := Scalar.addi c0_i32_779 v1015
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_780 : BitVec 32 := 2#32
  let v1017 : BitVec 32 := Scalar.muli v5 c2_i32_780
  let v1018 : BitVec 32 := Scalar.addi v1016 v1017
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_781 : BitVec 32 := 1#32
  let v1019 : BitVec 32 := Scalar.muli v11 c1_i32_781
  let v1020 : BitVec 32 := Scalar.addi v1018 v1019
  v1020.toNat
def k0_dev34 (d0 : Dev nD) : Nat :=
  let c0_i32_807 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_806 : BitVec 32 := 4#32
  let v1047 : BitVec 32 := Scalar.muli v2 c4_i32_806
  let v1048 : BitVec 32 := Scalar.addi c0_i32_807 v1047
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_808 : BitVec 32 := 2#32
  let v1049 : BitVec 32 := Scalar.muli v10 c2_i32_808
  let v1050 : BitVec 32 := Scalar.addi v1048 v1049
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_809 : BitVec 32 := 1#32
  let v1051 : BitVec 32 := Scalar.muli v8 c1_i32_809
  let v1052 : BitVec 32 := Scalar.addi v1050 v1051
  v1052.toNat
def k0_dev35 (d0 : Dev nD) : Nat :=
  let c0_i32_832 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_831 : BitVec 32 := 4#32
  let v1075 : BitVec 32 := Scalar.muli v2 c4_i32_831
  let v1076 : BitVec 32 := Scalar.addi c0_i32_832 v1075
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_833 : BitVec 32 := 2#32
  let v1077 : BitVec 32 := Scalar.muli v5 c2_i32_833
  let v1078 : BitVec 32 := Scalar.addi v1076 v1077
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_834 : BitVec 32 := 1#32
  let v1079 : BitVec 32 := Scalar.muli v11 c1_i32_834
  let v1080 : BitVec 32 := Scalar.addi v1078 v1079
  v1080.toNat
def k0_dev36 (d0 : Dev nD) : Nat :=
  let c0_i32_860 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_859 : BitVec 32 := 4#32
  let v1107 : BitVec 32 := Scalar.muli v2 c4_i32_859
  let v1108 : BitVec 32 := Scalar.addi c0_i32_860 v1107
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_861 : BitVec 32 := 2#32
  let v1109 : BitVec 32 := Scalar.muli v10 c2_i32_861
  let v1110 : BitVec 32 := Scalar.addi v1108 v1109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_862 : BitVec 32 := 1#32
  let v1111 : BitVec 32 := Scalar.muli v8 c1_i32_862
  let v1112 : BitVec 32 := Scalar.addi v1110 v1111
  v1112.toNat
def k0_dev37 (d0 : Dev nD) : Nat :=
  let c0_i32_885 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_884 : BitVec 32 := 4#32
  let v1135 : BitVec 32 := Scalar.muli v2 c4_i32_884
  let v1136 : BitVec 32 := Scalar.addi c0_i32_885 v1135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_886 : BitVec 32 := 2#32
  let v1137 : BitVec 32 := Scalar.muli v5 c2_i32_886
  let v1138 : BitVec 32 := Scalar.addi v1136 v1137
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_887 : BitVec 32 := 1#32
  let v1139 : BitVec 32 := Scalar.muli v11 c1_i32_887
  let v1140 : BitVec 32 := Scalar.addi v1138 v1139
  v1140.toNat
def k0_dev38 (d0 : Dev nD) : Nat :=
  let c0_i32_913 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_912 : BitVec 32 := 4#32
  let v1167 : BitVec 32 := Scalar.muli v2 c4_i32_912
  let v1168 : BitVec 32 := Scalar.addi c0_i32_913 v1167
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_914 : BitVec 32 := 2#32
  let v1169 : BitVec 32 := Scalar.muli v10 c2_i32_914
  let v1170 : BitVec 32 := Scalar.addi v1168 v1169
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_915 : BitVec 32 := 1#32
  let v1171 : BitVec 32 := Scalar.muli v8 c1_i32_915
  let v1172 : BitVec 32 := Scalar.addi v1170 v1171
  v1172.toNat
def k0_dev39 (d0 : Dev nD) : Nat :=
  let c0_i32_938 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_937 : BitVec 32 := 4#32
  let v1195 : BitVec 32 := Scalar.muli v2 c4_i32_937
  let v1196 : BitVec 32 := Scalar.addi c0_i32_938 v1195
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_939 : BitVec 32 := 2#32
  let v1197 : BitVec 32 := Scalar.muli v5 c2_i32_939
  let v1198 : BitVec 32 := Scalar.addi v1196 v1197
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_940 : BitVec 32 := 1#32
  let v1199 : BitVec 32 := Scalar.muli v11 c1_i32_940
  let v1200 : BitVec 32 := Scalar.addi v1198 v1199
  v1200.toNat
def k0_off9 (d0 : Dev nD) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_942 : BitVec 32 := 1024#32
  let v1208 : BitVec 32 := Scalar.muli v16 c1024_i32_942
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c896_i32 : BitVec 32 := 896#32
  let v24 : BitVec 32 := Scalar.muli v2 c896_i32
  ![v1208.toNat, v24.toNat]
def k0_dev40 (d0 : Dev nD) : Nat :=
  let c0_i32_948 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_947 : BitVec 32 := 4#32
  let v1209 : BitVec 32 := Scalar.muli v9 c4_i32_947
  let v1210 : BitVec 32 := Scalar.addi c0_i32_948 v1209
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_949 : BitVec 32 := 2#32
  let v1211 : BitVec 32 := Scalar.muli v5 c2_i32_949
  let v1212 : BitVec 32 := Scalar.addi v1210 v1211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_950 : BitVec 32 := 1#32
  let v1213 : BitVec 32 := Scalar.muli v8 c1_i32_950
  let v1214 : BitVec 32 := Scalar.addi v1212 v1213
  v1214.toNat
def k0_off10 (d0 : Dev nD) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_952 : BitVec 32 := 1024#32
  let v1222 : BitVec 32 := Scalar.muli v19 c1024_i32_952
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c896_i32 : BitVec 32 := 896#32
  let v24 : BitVec 32 := Scalar.muli v2 c896_i32
  ![v1222.toNat, v24.toNat]
def k0_dev41 (d0 : Dev nD) : Nat :=
  let c0_i32_958 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_957 : BitVec 32 := 4#32
  let v1223 : BitVec 32 := Scalar.muli v9 c4_i32_957
  let v1224 : BitVec 32 := Scalar.addi c0_i32_958 v1223
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_959 : BitVec 32 := 2#32
  let v1225 : BitVec 32 := Scalar.muli v5 c2_i32_959
  let v1226 : BitVec 32 := Scalar.addi v1224 v1225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_960 : BitVec 32 := 1#32
  let v1227 : BitVec 32 := Scalar.muli v8 c1_i32_960
  let v1228 : BitVec 32 := Scalar.addi v1226 v1227
  v1228.toNat
def k0_off11 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1024_i32_988 : BitVec 32 := 1024#32
  let v1264 : BitVec 32 := Scalar.muli v23 c1024_i32_988
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c896_i32 : BitVec 32 := 896#32
  let v24 : BitVec 32 := Scalar.muli v2 c896_i32
  ![v1264.toNat, v24.toNat]
def k0_dev42 (d0 : Dev nD) : Nat :=
  let c0_i32_994 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_993 : BitVec 32 := 4#32
  let v1265 : BitVec 32 := Scalar.muli v9 c4_i32_993
  let v1266 : BitVec 32 := Scalar.addi c0_i32_994 v1265
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_995 : BitVec 32 := 2#32
  let v1267 : BitVec 32 := Scalar.muli v5 c2_i32_995
  let v1268 : BitVec 32 := Scalar.addi v1266 v1267
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_996 : BitVec 32 := 1#32
  let v1269 : BitVec 32 := Scalar.muli v8 c1_i32_996
  let v1270 : BitVec 32 := Scalar.addi v1268 v1269
  v1270.toNat
-- ==== ReferenceIdeal.lean ====
abbrev S8192x1024 : Shape := ⟨2, ![8192, 1024]⟩
abbrev S2x4096x1024 : Shape := ⟨3, ![2, 4096, 1024]⟩
abbrev S_ : Shape := ⟨0, ![]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x4096x1024, .f32⟩
  | .hbm, ⟨2, _⟩ => ⟨S_, .f32⟩
  | .hbm, ⟨3, _⟩ => ⟨S4096x1024, .f32⟩
  | .hbm, ⟨4, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Ideal.Text.lean ====
/-
The text of the kernel, folded: the body as eight turns of each of its loops, one definition per turn, generic in the
turn. `body_text` says that the body the launch runs is this text, by definitional unfolding.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Own

open Cert.KernelIdeal Cert.KernelIdeal.Gen
open Idealize.ShloMosaic Idealize.ShloMosaic.TcCoe
open Idealize.SL Idealize.SL.Sem

variable {F : FTy → Type} [FloatOps F]

/-! ## The buffers and their slices -/

/-- The argument block, in off-chip memory. -/
abbrev xM : Memref sig .tc .hbm S4096x1024 .f32 := Memref.whole main_arg0
/-- The result, in off-chip memory. -/
abbrev oM : Memref sig .tc .hbm S4096x1024 .bf16 := Memref.whole main_v1
/-- The quarter of the argument, fetched. -/
abbrev qM : Memref sig .tc .vmem S1024x1024 .f32 := Memref.whole cc0_scratch0
/-- The quarter in the narrow format, the part sent and the part kept. -/
abbrev sM : Memref sig .tc .vmem S1024x1024 .bf16 := Memref.whole cc0_scratch1
/-- What the partner along x sent. -/
abbrev rM : Memref sig .tc .vmem S1024x1024 .bf16 := Memref.whole cc0_scratch2
/-- The sums. -/
abbrev dM : Memref sig .tc .vmem S1024x1024 .bf16 := Memref.whole cc0_scratch3

/-- Chunk `t` of the order in which the chunks leave along x, as a rectangle of a quarter (the transfers' copy of it). -/
abbrev rc1 (d : Dev nD) (t : Fin 8) : Rect S1024x1024 :=
  Rect.unit (s := S1024x1024) (k0_off1 d (k0_off1_at t).1 (k0_off1_at t).2) S1024x128.size (k0_off1_inb d t)
/-- The same chunk as a rectangle of the argument. -/
abbrev rc2 (d : Dev nD) (t : Fin 8) : Rect S4096x1024 :=
  Rect.unit (s := S4096x1024) (k0_off2 d (k0_off2_at t).1 (k0_off2_at t).2) S1024x128.size (k0_off2_inb d t)
/-- The same chunk as the vector accesses name it. -/
abbrev rc3 (d : Dev nD) (t : Fin 8) : Rect S1024x1024 :=
  Rect.unit (s := S1024x1024) (k0_off3 d (k0_off3_at t).1 (k0_off3_at t).2) S1024x128.size (k0_off3_inb d t)
/-- Chunk `t` of the order in which the sums are formed, as the vector accesses name it. -/
abbrev rc4 (d : Dev nD) (t : Fin 8) : Rect S1024x1024 :=
  Rect.unit (s := S1024x1024) (k0_off4 d (k0_off4_at t).1 (k0_off4_at t).2) S1024x128.size (k0_off4_inb d t)
/-- The same chunk in the device's own quarter of the result. -/
abbrev rc5 (d : Dev nD) (t : Fin 8) : Rect S4096x1024 :=
  Rect.unit (s := S4096x1024) (k0_off5 d (k0_off5_at t).1 (k0_off5_at t).2) S1024x128.size (k0_off5_inb d t)
/-- The same chunk of the sums, as the transfers name it. -/
abbrev rc6 (d : Dev nD) (t : Fin 8) : Rect S1024x1024 :=
  Rect.unit (s := S1024x1024) (k0_off6 d (k0_off6_at t).1 (k0_off6_at t).2) S1024x128.size (k0_off6_inb d t)
/-- The upper half of chunk `j` in the quarter of the z neighbour, which goes on along y. -/
abbrev rc7 (d : Dev nD) (j : Fin 7) : Rect S4096x1024 :=
  Rect.unit (s := S4096x1024) (k0_off7 d (k0_off7_at j).1 (k0_off7_at j).2) S512x128.size (k0_off7_inb d j)
/-- The lower half of chunk `j` in the quarter of the y neighbour, which goes on along z. -/
abbrev rc8 (d : Dev nD) (j : Fin 7) : Rect S4096x1024 :=
  Rect.unit (s := S4096x1024) (k0_off8 d (k0_off8_at j).1 (k0_off8_at j).2) S512x128.size (k0_off8_inb d j)
/-- The first chunk in the quarter of the y neighbour, -/
abbrev rc9 (d : Dev nD) : Rect S4096x1024 := Rect.unit (s := S4096x1024) (k0_off9 d) S1024x128.size (k0_off9_inb d)
/-- of the z neighbour, -/
abbrev rc10 (d : Dev nD) : Rect S4096x1024 := Rect.unit (s := S4096x1024) (k0_off10 d) S1024x128.size (k0_off10_inb d)
/-- and of the diagonal neighbour. -/
abbrev rc11 (d : Dev nD) : Rect S4096x1024 := Rect.unit (s := S4096x1024) (k0_off11 d) S1024x128.size (k0_off11_inb d)

abbrev xq (d : Dev nD) (t : Fin 8) : Memref sig .tc .hbm S1024x128 .f32 := xM.slice (rc2 d t) (fun _ => rfl)
abbrev qq (d : Dev nD) (t : Fin 8) : Memref sig .tc .vmem S1024x128 .f32 := qM.slice (rc1 d t) (fun _ => rfl)
abbrev sq (d : Dev nD) (t : Fin 8) : Memref sig .tc .vmem S1024x128 .bf16 := sM.slice (rc1 d t) (fun _ => rfl)
abbrev rq (d : Dev nD) (t : Fin 8) : Memref sig .tc .vmem S1024x128 .bf16 := rM.slice (rc1 d t) (fun _ => rfl)
abbrev dq (d : Dev nD) (t : Fin 8) : Memref sig .tc .vmem S1024x128 .bf16 := dM.slice (rc6 d t) (fun _ => rfl)
abbrev oq (d : Dev nD) (t : Fin 8) : Memref sig .tc .hbm S1024x128 .bf16 := oM.slice (rc5 d t) (fun _ => rfl)
abbrev oy (d : Dev nD) (j : Fin 7) : Memref sig .tc .hbm S512x128 .bf16 := oM.slice (rc7 d j) (fun _ => rfl)
abbrev oz (d : Dev nD) (j : Fin 7) : Memref sig .tc .hbm S512x128 .bf16 := oM.slice (rc8 d j) (fun _ => rfl)
abbrev o9 (d : Dev nD) : Memref sig .tc .hbm S1024x128 .bf16 := oM.slice (rc9 d) (fun _ => rfl)
abbrev o10 (d : Dev nD) : Memref sig .tc .hbm S1024x128 .bf16 := oM.slice (rc10 d) (fun _ => rfl)
abbrev o11 (d : Dev nD) : Memref sig .tc .hbm S1024x128 .bf16 := oM.slice (rc11 d) (fun _ => rfl)

/-! ## The neighbours and the semaphores -/

/-- The device across x, -/
abbrev nx (d : Dev nD) : Dev nD := ⟨k0_dev1 d, k0_dev1_lt d⟩
/-- across y, -/
abbrev ny (d : Dev nD) : Dev nD := ⟨k0_dev2 d, k0_dev2_lt d⟩
/-- and across z. -/
abbrev nz (d : Dev nD) : Dev nD := ⟨k0_dev3 d, k0_dev3_lt d⟩

/-- The semaphore every device waits on before it sends. -/
abbrev barS : Sem sig := (SemArray.scalar (sig.barrier 0 rfl) : Sems sig S_).sem
/-- The semaphore of fetch `t`, -/
abbrev inS (t : Fin 8) : DmaSem sig := ⟨t.val, by have := t.isLt; exact Nat.lt_of_lt_of_le this (by decide)⟩
/-- of the local copy of chunk `t` into the result, -/
abbrev outS (t : Fin 8) : DmaSem sig := ⟨8 + t.val, by have := t.isLt; exact Nat.lt_of_lt_of_le (Nat.add_lt_add_left this 8) (by decide)⟩
/-- of the departure of transfer `t` of phase `p`, -/
abbrev snS (p t : Fin 8) : DmaSem sig :=
  ⟨16 + (8 * p.val + t.val), by have := t.isLt; have := p.isLt; show _ < 144; omega⟩
/-- and of its arrival. -/
abbrev rcS (p t : Fin 8) : DmaSem sig :=
  ⟨80 + (8 * p.val + t.val), by have := t.isLt; have := p.isLt; show _ < 144; omega⟩

/-! ## The turns -/

/-- The programs of the body. -/
abbrev PT (F : FTy → Type) [FloatOps F] := Prog (TpuEff nD τ sig (Elt F) Λ₀ .tc) PUnit

/-- Seven turns. -/
def seq7 (f : Fin 7 → PT F) : PT F := do f 0; f 1; f 2; f 3; f 4; f 5; f 6
/-- Eight turns. -/
def seq8 (f : Fin 8 → PT F) : PT F := do f 0; f 1; f 2; f 3; f 4; f 5; f 6; f 7

/-- Fetch chunk `t`. -/
def pIn (d : Dev nD) (t : Fin 8) : PT F :=
  Prog.lift (.enqueueDma (xq d t) (.here (qq d t)) (.dma (inS t)) (View.wordExact_bits rfl) (View.wordExact_bits rfl)
    ⟨Or.inl rfl, trivial⟩)

/-- Tell the three neighbours that the device has begun, and wait for the three. -/
def pBar (d : Dev nD) : PT F := do
  semSignalWord (nx d) barS 1#32
  semSignalWord (ny d) barS 1#32
  semSignalWord (nz d) barS 1#32
  semWaitWord barS 3#32

/-- Chunk `t` arrives, is narrowed and is sent across x. -/
def pX (d : Dev nD) (t : Fin 8) : PT F := do
  Prog.lift (.waitDma2 (inS t) (xq d t) (qq d t) (View.wordExact_bits rfl) (View.wordExact_bits rfl))
  let v : Vec F S1024x128 .f32 ← Prog.lift (.load qM (rc3 d t).toLoadRect (View.loadsAt_vmem h_S1024x128))
  let _u : Vec F S1024x128 .bf16 ← Prog.lift (.load sM (rc3 d t).toLoadRect (View.loadsAt_vmem h_S1024x128))
  Prog.lift (.store sM (rc3 d t) (k0_pay1 v) Finset.univ
    (View.stores_vmem h_S1024x128 ((Memref.isWhole_whole _).storeExact_slice rfl _ (k0_off3_packedbf16 d t)) (fun _ => rfl))
    (.inl rfl))
  Prog.lift (.enqueueDma (sq d t) (.remote (Dev.tc (nx d)) (rq d t) (.dma (snS 0 t))) (.dma (rcS 0 t))
    ((Memref.isWhole_whole _).wordExact_slice rfl _ (k0_off1_wordsbf16 d t))
    ((Memref.isWhole_whole _).wordExact_slice rfl _ (k0_off1_wordsbf16 d t)) ⟨⟨rfl, Or.inl rfl⟩, trivial⟩)

/-- The partner's chunk `t` is here: add it to the one kept and copy the sum to the result. -/
def pSum (d : Dev nD) (t : Fin 8) : PT F := do
  Prog.lift (.waitDma2 (snS 0 t) (rq d t) (sq d t) ((Memref.isWhole_whole _).wordExact_slice rfl _ (k0_off1_wordsbf16 d t))
    ((Memref.isWhole_whole _).wordExact_slice rfl _ (k0_off1_wordsbf16 d t)))
  Prog.lift (.waitDma2 (rcS 0 t) (sq d t) (rq d t) ((Memref.isWhole_whole _).wordExact_slice rfl _ (k0_off1_wordsbf16 d t))
    ((Memref.isWhole_whole _).wordExact_slice rfl _ (k0_off1_wordsbf16 d t)))
  let v : Vec F S1024x128 .bf16 ← Prog.lift (.load sM (rc4 d t).toLoadRect (View.loadsAt_vmem h_S1024x128))
  let w : Vec F S1024x128 .bf16 ← Prog.lift (.load rM (rc4 d t).toLoadRect (View.loadsAt_vmem h_S1024x128))
  let _u : Vec F S1024x128 .bf16 ← Prog.lift (.load dM (rc4 d t).toLoadRect (View.loadsAt_vmem h_S1024x128))
  Prog.lift (.store dM (rc4 d t) (k0_pay10 v w) Finset.univ
    (View.stores_vmem h_S1024x128 ((Memref.isWhole_whole _).storeExact_slice rfl _ (k0_off4_packedbf16 d t)) (fun _ => rfl))
    (.inl rfl))
  Prog.lift (.enqueueDma (dq d t) (.here (oq d t)) (.dma (outS t))
    ((Memref.isWhole_whole _).wordExact_slice rfl _ (k0_off6_wordsbf16 d t))
    ((Memref.isWhole_whole _).wordExact_slice rfl _ (k0_off5_wordsbf16 d t)) ⟨Or.inl rfl, trivial⟩)

/-- Send the sum of chunk `t` to device `e`, as transfer `t` of phase `p`. -/
def pH1 (d e : Dev nD) (p t : Fin 8) : PT F :=
  Prog.lift (.enqueueDma (dq d t) (.remote (Dev.tc e) (oq d t) (.dma (snS p t))) (.dma (rcS p t))
    ((Memref.isWhole_whole _).wordExact_slice rfl _ (k0_off6_wordsbf16 d t))
    ((Memref.isWhole_whole _).wordExact_slice rfl _ (k0_off5_wordsbf16 d t)) ⟨⟨rfl, Or.inl rfl⟩, trivial⟩)

/-- One turn of the loop that forms the sums, for the chunks that go round y and z. -/
def pS (d : Dev nD) (j : Fin 7) : PT F := do
  pSum d j.castSucc
  pH1 d (ny d) 1 j.castSucc
  pH1 d (nz d) 2 j.castSucc

/-- Wait for transfer `t` of phase `p` of the sums: its departure, then its arrival. -/
def wH1 (d : Dev nD) (p t : Fin 8) : PT F := do
  Prog.lift (.waitDma2 (snS p t) (oq d t) (dq d t) ((Memref.isWhole_whole _).wordExact_slice rfl _ (k0_off5_wordsbf16 d t))
    ((Memref.isWhole_whole _).wordExact_slice rfl _ (k0_off6_wordsbf16 d t)))
  Prog.lift (.waitDma2 (rcS p t) (dq d t) (oq d t) ((Memref.isWhole_whole _).wordExact_slice rfl _ (k0_off6_wordsbf16 d t))
    ((Memref.isWhole_whole _).wordExact_slice rfl _ (k0_off5_wordsbf16 d t)))

/-- Send half of the z neighbour's chunk `j` on along y. -/
def pH2Y (d : Dev nD) (j : Fin 7) : PT F :=
  Prog.lift (.enqueueDma (oy d j) (.remote (Dev.tc (ny d)) (oy d j) (.dma (snS 3 j.castSucc))) (.dma (rcS 3 j.castSucc))
    ((Memref.isWhole_whole _).wordExact_slice rfl _ (k0_off7_wordsbf16 d j))
    ((Memref.isWhole_whole _).wordExact_slice rfl _ (k0_off7_wordsbf16 d j)) ⟨⟨rfl, Or.inl rfl⟩, trivial⟩)

/-- Send half of the y neighbour's chunk `j` on along z. -/
def pH2Z (d : Dev nD) (j : Fin 7) : PT F :=
  Prog.lift (.enqueueDma (oz d j) (.remote (Dev.tc (nz d)) (oz d j) (.dma (snS 4 j.castSucc))) (.dma (rcS 4 j.castSucc))
    ((Memref.isWhole_whole _).wordExact_slice rfl _ (k0_off8_wordsbf16 d j))
    ((Memref.isWhole_whole _).wordExact_slice rfl _ (k0_off8_wordsbf16 d j)) ⟨⟨rfl, Or.inl rfl⟩, trivial⟩)

/-- One turn of the loop that passes the neighbours' chunks on. -/
def pF (d : Dev nD) (j : Fin 7) : PT F := do
  wH1 d 2 j.castSucc
  pH2Y d j
  wH1 d 1 j.castSucc
  pH2Z d j

/-- Wait for the halves of chunk `j`. -/
def wH2 (d : Dev nD) (j : Fin 7) : PT F := do
  Prog.lift (.waitDma2 (snS 3 j.castSucc) (oy d j) (oy d j) ((Memref.isWhole_whole _).wordExact_slice rfl _ (k0_off7_wordsbf16 d j))
    ((Memref.isWhole_whole _).wordExact_slice rfl _ (k0_off7_wordsbf16 d j)))
  Prog.lift (.waitDma2 (rcS 3 j.castSucc) (oy d j) (oy d j) ((Memref.isWhole_whole _).wordExact_slice rfl _ (k0_off7_wordsbf16 d j))
    ((Memref.isWhole_whole _).wordExact_slice rfl _ (k0_off7_wordsbf16 d j)))
  Prog.lift (.waitDma2 (snS 4 j.castSucc) (oz d j) (oz d j) ((Memref.isWhole_whole _).wordExact_slice rfl _ (k0_off8_wordsbf16 d j))
    ((Memref.isWhole_whole _).wordExact_slice rfl _ (k0_off8_wordsbf16 d j)))
  Prog.lift (.waitDma2 (rcS 4 j.castSucc) (oz d j) (oz d j) ((Memref.isWhole_whole _).wordExact_slice rfl _ (k0_off8_wordsbf16 d j))
    ((Memref.isWhole_whole _).wordExact_slice rfl _ (k0_off8_wordsbf16 d j)))

/-- Send a block of the result across x, as the transfer of phase `p`. -/
def pL (d : Dev nD) (r : Rect S4096x1024) (hs : ∀ a, r.stride a = 1) (hw : r.WholeWords (EltTy.packing .bf16)) (p : Fin 8) : PT F :=
  Prog.lift (.enqueueDma (oM.slice r hs) (.remote (Dev.tc (nx d)) (oM.slice r hs) (.dma (snS p 0))) (.dma (rcS p 0))
    ((Memref.isWhole_whole _).wordExact_slice rfl _ hw)
    ((Memref.isWhole_whole _).wordExact_slice rfl _ hw) ⟨⟨rfl, Or.inl rfl⟩, trivial⟩)

/-- Wait for that transfer: its departure, then its arrival. -/
def wL (r : Rect S4096x1024) (hs : ∀ a, r.stride a = 1) (hw : r.WholeWords (EltTy.packing .bf16)) (p : Fin 8) : PT F := do
  Prog.lift (.waitDma2 (snS p 0) (oM.slice r hs) (oM.slice r hs) ((Memref.isWhole_whole _).wordExact_slice rfl _ hw)
    ((Memref.isWhole_whole _).wordExact_slice rfl _ hw))
  Prog.lift (.waitDma2 (rcS p 0) (oM.slice r hs) (oM.slice r hs) ((Memref.isWhole_whole _).wordExact_slice rfl _ hw)
    ((Memref.isWhole_whole _).wordExact_slice rfl _ hw))

/-- Wait for the local copy of chunk `t` into the result. -/
def wOut (d : Dev nD) (t : Fin 8) : PT F :=
  Prog.lift (.waitDma2 (outS t) (dq d t) (oq d t) ((Memref.isWhole_whole _).wordExact_slice rfl _ (k0_off6_wordsbf16 d t))
    ((Memref.isWhole_whole _).wordExact_slice rfl _ (k0_off5_wordsbf16 d t)))

/-- The last transfers across x, and the waits at the end. -/
def pEnd (d : Dev nD) : PT F := do
  pL d (rc9 d) (fun _ => rfl) (k0_off9_wordsbf16 d) 5
  pL d (rc10 d) (fun _ => rfl) (k0_off10_wordsbf16 d) 6
  wH2 d 0
  pL d (rc11 d) (fun _ => rfl) (k0_off11_wordsbf16 d) 7
  wH2 d 1; wH2 d 2; wH2 d 3; wH2 d 4; wH2 d 5; wH2 d 6
  wL (rc9 d) (fun _ => rfl) (k0_off9_wordsbf16 d) 5
  wL (rc10 d) (fun _ => rfl) (k0_off10_wordsbf16 d) 6
  wL (rc11 d) (fun _ => rfl) (k0_off11_wordsbf16 d) 7
  seq8 (wOut d)

/-- The body. -/
def text : PT F := do
  let d : Dev nD ← Prog.lift .deviceId
  seq8 (pIn d)
  pBar d
  seq8 (pX d)
  seq7 (pS d)
  pSum d 7
  seq7 (pF d)
  pEnd d

set_option maxRecDepth 65536 in
/-- The body the launch runs is this text. -/
theorem body_text (t : Fin cfg0.N) : bodyAt0 (F := F) t = text := by chain_rfl

end Cert.KernelIdeal.Own

end
-- ==== Proof.Ideal.Common.lean ====
/-
The pieces the buffers are cut into, the contents they hold, and what each slice of the text is among them.

A quarter (1024 × 1024) is cut into eight column chunks, `ck k`; the result (4096 × 1024) into four row blocks of
eight chunks, `qb q k`, some of them cut again into an upper and a lower half, `hb h k`.
-/
module

public import proofs.«01_k».proof.Proof.Ideal.Text
public import Idealize.ShloMosaic.Lib.Pipeline.Value
public import Idealize.ShloMosaic.Lib.Ring
public import Idealize.ShloMosaic.Lib.Rounds

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Devices and chunks -/

/-- The chunk device `d` sums at turn `t`: the devices with x = 0 go up, the others down. -/
def mn (d : Dev nD) (t : Fin 8) : Fin 8 := if d.val / 4 = 0 then t else t.rev
/-- The chunk device `d` sends across x at turn `t`. -/
def th (d : Dev nD) (t : Fin 8) : Fin 8 := mn d t.rev
/-- The quarter of the rows device `d` sums. -/
def qd (d : Dev nD) : Fin 4 := ⟨d.val % 4, Nat.mod_lt _ (by decide)⟩

theorem nx_nx : ∀ d : Dev nD, nx (nx d) = d := by decide +kernel
theorem ny_ny : ∀ d : Dev nD, ny (ny d) = d := by decide +kernel
theorem nz_nz : ∀ d : Dev nD, nz (nz d) = d := by decide +kernel
theorem nx_ny : ∀ d : Dev nD, nx (ny d) = ny (nx d) := by decide +kernel
theorem nx_nz : ∀ d : Dev nD, nx (nz d) = nz (nx d) := by decide +kernel
theorem ny_nz : ∀ d : Dev nD, ny (nz d) = nz (ny d) := by decide +kernel
theorem nx_ne : ∀ d : Dev nD, nx d ≠ d := by decide +kernel
theorem ny_ne : ∀ d : Dev nD, ny d ≠ d := by decide +kernel
theorem nz_ne : ∀ d : Dev nD, nz d ≠ d := by decide +kernel
theorem mn_ny : ∀ (d : Dev nD) (t : Fin 8), mn (ny d) t = mn d t := by decide +kernel
theorem mn_nz : ∀ (d : Dev nD) (t : Fin 8), mn (nz d) t = mn d t := by decide +kernel
theorem mn_nx : ∀ (d : Dev nD) (t : Fin 8), mn (nx d) t = mn d t.rev := by decide +kernel
theorem th_rev : ∀ (d : Dev nD) (t : Fin 8), th d t.rev = mn d t := by decide +kernel
theorem th_nx : ∀ (d : Dev nD) (t : Fin 8), th (nx d) t = mn d t := by decide +kernel
theorem mn_inj : ∀ (d : Dev nD) (t t' : Fin 8), mn d t = mn d t' → t = t' := by decide +kernel
theorem th_inj : ∀ (d : Dev nD) (t t' : Fin 8), th d t = th d t' → t = t' := by decide +kernel
theorem mn_mn : ∀ (d : Dev nD) (t : Fin 8), mn d (mn d t) = t := by decide +kernel
theorem th_th : ∀ (d : Dev nD) (t : Fin 8), th d (th d t) = t := by decide +kernel
theorem qd_nx : ∀ d : Dev nD, qd (nx d) = qd d := by decide +kernel

/-! ## The pieces -/

/-- Column chunk `k` of a quarter. -/
def ck (k : Fin 8) : Finset S1024x1024.Idx := Finset.univ.filter fun i => (i 1).val / 128 = k.val
/-- Column chunk `k` of quarter `q` of the rows. -/
def qb (q : Fin 4) (k : Fin 8) : Finset S4096x1024.Idx :=
  Finset.univ.filter fun i => (i 0).val / 1024 = q.val ∧ (i 1).val / 128 = k.val
/-- The upper (`b = 0`) or the lower half of that. -/
def hb (q : Fin 4) (b : Fin 2) (k : Fin 8) : Finset S4096x1024.Idx :=
  Finset.univ.filter fun i => (i 0).val / 512 = 2 * q.val + b.val ∧ (i 1).val / 128 = k.val

theorem mem_ck {k : Fin 8} {i : S1024x1024.Idx} : i ∈ ck k ↔ (i 1).val / 128 = k.val := by simp [ck]
theorem mem_qb {q : Fin 4} {k : Fin 8} {i : S4096x1024.Idx} :
    i ∈ qb q k ↔ (i 0).val / 1024 = q.val ∧ (i 1).val / 128 = k.val := by simp [qb]
theorem mem_hb {q : Fin 4} {b : Fin 2} {k : Fin 8} {i : S4096x1024.Idx} :
    i ∈ hb q b k ↔ (i 0).val / 512 = 2 * q.val + b.val ∧ (i 1).val / 128 = k.val := by simp [hb]

/-- An index of a matrix has its two coordinates in range. -/
theorem lt_q (i : S1024x1024.Idx) : (i 0).val < 1024 ∧ (i 1).val < 1024 := ⟨(i 0).isLt, (i 1).isLt⟩
theorem lt_o (i : S4096x1024.Idx) : (i 0).val < 4096 ∧ (i 1).val < 1024 := ⟨(i 0).isLt, (i 1).isLt⟩

theorem unit_ck {off : Fin 2 → ℕ} (h : ∀ a, off a + S1024x128.size a ≤ S1024x1024.size a) (k : Fin 8)
    (e : off = ![0, 128 * k.val]) : (Rect.unit (s := S1024x1024) off S1024x128.size h).set = ck k := by
  subst e
  ext i
  have := lt_q i
  rw [LoadRect.mem_set, mem_ck]
  constructor
  · intro H
    obtain ⟨j, hj, e⟩ := H 1
    have hj' : j < 128 := hj
    have e' : (i 1).val = 128 * k.val + 1 * j := e
    omega
  · intro H a
    match a with
    | ⟨0, _⟩ => exact ⟨(i 0).val, (i 0).isLt, by show (i 0).val = 0 + 1 * (i 0).val; omega⟩
    | ⟨1, _⟩ => exact ⟨(i 1).val - 128 * k.val, by show (i 1).val - 128 * k.val < 128; omega,
        by show (i 1).val = 128 * k.val + 1 * ((i 1).val - 128 * k.val); omega⟩

theorem unit_qb {off : Fin 2 → ℕ} (h : ∀ a, off a + S1024x128.size a ≤ S4096x1024.size a) (q : Fin 4) (k : Fin 8)
    (e : off = ![1024 * q.val, 128 * k.val]) : (Rect.unit (s := S4096x1024) off S1024x128.size h).set = qb q k := by
  subst e
  ext i
  have := lt_o i
  rw [LoadRect.mem_set, mem_qb]
  constructor
  · intro H
    obtain ⟨j, hj, e⟩ := H 1
    obtain ⟨l, hl, e'⟩ := H 0
    have hj' : j < 128 := hj
    have hl' : l < 1024 := hl
    have e1 : (i 1).val = 128 * k.val + 1 * j := e
    have e0 : (i 0).val = 1024 * q.val + 1 * l := e'
    omega
  · intro H a
    match a with
    | ⟨0, _⟩ => exact ⟨(i 0).val - 1024 * q.val, by show (i 0).val - 1024 * q.val < 1024; omega,
        by show (i 0).val = 1024 * q.val + 1 * ((i 0).val - 1024 * q.val); omega⟩
    | ⟨1, _⟩ => exact ⟨(i 1).val - 128 * k.val, by show (i 1).val - 128 * k.val < 128; omega,
        by show (i 1).val = 128 * k.val + 1 * ((i 1).val - 128 * k.val); omega⟩

theorem unit_hb {off : Fin 2 → ℕ} (h : ∀ a, off a + S512x128.size a ≤ S4096x1024.size a) (q : Fin 4) (b : Fin 2) (k : Fin 8)
    (e : off = ![512 * (2 * q.val + b.val), 128 * k.val]) : (Rect.unit (s := S4096x1024) off S512x128.size h).set = hb q b k := by
  subst e
  ext i
  have := lt_o i
  rw [LoadRect.mem_set, mem_hb]
  constructor
  · intro H
    obtain ⟨j, hj, e⟩ := H 1
    obtain ⟨l, hl, e'⟩ := H 0
    have hj' : j < 128 := hj
    have hl' : l < 512 := hl
    have e1 : (i 1).val = 128 * k.val + 1 * j := e
    have e0 : (i 0).val = 512 * (2 * q.val + b.val) + 1 * l := e'
    omega
  · intro H a
    match a with
    | ⟨0, _⟩ => exact ⟨(i 0).val - 512 * (2 * q.val + b.val), by show (i 0).val - 512 * (2 * q.val + b.val) < 512; omega,
        by show (i 0).val = 512 * (2 * q.val + b.val) + 1 * ((i 0).val - 512 * (2 * q.val + b.val)); omega⟩
    | ⟨1, _⟩ => exact ⟨(i 1).val - 128 * k.val, by show (i 1).val - 128 * k.val < 128; omega,
        by show (i 1).val = 128 * k.val + 1 * ((i 1).val - 128 * k.val); omega⟩

/-! ## The offsets in closed form -/

theorem off1_eq : ∀ (d : Dev nD) (t : Fin 8), k0_off1 d (k0_off1_at t).1 (k0_off1_at t).2 = ![0, 128 * (th d t).val] := by
  decide +kernel
theorem off2_eq : ∀ (d : Dev nD) (t : Fin 8),
    k0_off2 d (k0_off2_at t).1 (k0_off2_at t).2 = ![1024 * (qd d).val, 128 * (th d t).val] := by decide +kernel
theorem off3_eq : ∀ (d : Dev nD) (t : Fin 8), k0_off3 d (k0_off3_at t).1 (k0_off3_at t).2 = ![0, 128 * (th d t).val] := by
  decide +kernel
theorem off4_eq : ∀ (d : Dev nD) (t : Fin 8), k0_off4 d (k0_off4_at t).1 (k0_off4_at t).2 = ![0, 128 * (mn d t).val] := by
  decide +kernel
theorem off5_eq : ∀ (d : Dev nD) (t : Fin 8),
    k0_off5 d (k0_off5_at t).1 (k0_off5_at t).2 = ![1024 * (qd d).val, 128 * (mn d t).val] := by decide +kernel
theorem off6_eq : ∀ (d : Dev nD) (t : Fin 8), k0_off6 d (k0_off6_at t).1 (k0_off6_at t).2 = ![0, 128 * (mn d t).val] := by
  decide +kernel
theorem off7_eq : ∀ (d : Dev nD) (j : Fin 7), k0_off7 d (k0_off7_at j).1 (k0_off7_at j).2
    = ![512 * (2 * (qd (nz d)).val + (0 : Fin 2).val), 128 * (mn d j.castSucc).val] := by decide +kernel
theorem off8_eq : ∀ (d : Dev nD) (j : Fin 7), k0_off8 d (k0_off8_at j).1 (k0_off8_at j).2
    = ![512 * (2 * (qd (ny d)).val + (1 : Fin 2).val), 128 * (mn d j.castSucc).val] := by decide +kernel
theorem off9_eq : ∀ d : Dev nD, k0_off9 d = ![1024 * (qd (ny d)).val, 128 * (mn d 0).val] := by decide +kernel
theorem off10_eq : ∀ d : Dev nD, k0_off10 d = ![1024 * (qd (nz d)).val, 128 * (mn d 0).val] := by decide +kernel
theorem off11_eq : ∀ d : Dev nD, k0_off11 d = ![1024 * (qd (ny (nz d))).val, 128 * (mn d 0).val] := by decide +kernel

theorem rc1_set (d : Dev nD) (t : Fin 8) : (rc1 d t).set = ck (th d t) := unit_ck _ _ (off1_eq d t)
theorem rc2_set (d : Dev nD) (t : Fin 8) : (rc2 d t).set = qb (qd d) (th d t) := unit_qb _ _ _ (off2_eq d t)
theorem rc3_set (d : Dev nD) (t : Fin 8) : (rc3 d t).set = ck (th d t) := unit_ck _ _ (off3_eq d t)
theorem rc4_set (d : Dev nD) (t : Fin 8) : (rc4 d t).set = ck (mn d t) := unit_ck _ _ (off4_eq d t)
theorem rc5_set (d : Dev nD) (t : Fin 8) : (rc5 d t).set = qb (qd d) (mn d t) := unit_qb _ _ _ (off5_eq d t)
theorem rc6_set (d : Dev nD) (t : Fin 8) : (rc6 d t).set = ck (mn d t) := unit_ck _ _ (off6_eq d t)
theorem rc7_set (d : Dev nD) (j : Fin 7) : (rc7 d j).set = hb (qd (nz d)) 0 (mn d j.castSucc) := unit_hb _ _ _ _ (off7_eq d j)
theorem rc8_set (d : Dev nD) (j : Fin 7) : (rc8 d j).set = hb (qd (ny d)) 1 (mn d j.castSucc) := unit_hb _ _ _ _ (off8_eq d j)
theorem rc9_set (d : Dev nD) : (rc9 d).set = qb (qd (ny d)) (mn d 0) := unit_qb _ _ _ (off9_eq d)
theorem rc10_set (d : Dev nD) : (rc10 d).set = qb (qd (nz d)) (mn d 0) := unit_qb _ _ _ (off10_eq d)
theorem rc11_set (d : Dev nD) : (rc11 d).set = qb (qd (ny (nz d))) (mn d 0) := unit_qb _ _ _ (off11_eq d)

/-! ## The contents -/

variable (m : (ℓ : Loc nD τ sig) → Buf (Elt F) ℓ)

/-- Row `i 0` of quarter `q`, in the whole. -/
def up (q : Fin 4) (i : S1024x1024.Idx) : S4096x1024.Idx
  | ⟨0, _⟩ => ⟨1024 * q.val + (i 0).val, by have := (lt_q i).1; have := q.isLt; show _ < 4096; omega⟩
  | ⟨1, _⟩ => i 1
/-- The row within its quarter. -/
def dn (i : S4096x1024.Idx) : S1024x1024.Idx
  | ⟨0, _⟩ => ⟨(i 0).val % 1024, Nat.mod_lt _ (by decide)⟩
  | ⟨1, _⟩ => i 1

/-- The argument of device `c`. -/
def Xv (c : Dev nD) : Vec F S4096x1024 .f32 := m (c.tc.loc main_arg0)
/-- Its quarter. -/
def Qv (c : Dev nD) : Vec F S1024x1024 .f32 := fun i => Xv m c (up (qd c) i)
/-- That in the narrow format. -/
def Sv (c : Dev nD) : FVec F S1024x1024 .bf16 := truncf .bf16 (Qv m c) bitsLt_bf16_f32
/-- The quarter's sum over the two devices along x. -/
def Dv (c : Dev nD) : FVec F S1024x1024 .bf16 := addf (Sv m c) (Sv m (nx c))
/-- The device whose sum device `c` ends up with in chunk `k` of quarter `q`. -/
def src (c : Dev nD) (q : Fin 4) (k : Fin 8) : Dev nD :=
  if q = qd c ∨ k ≠ mn c 7 then ⟨4 * (c.val / 4) + q.val, by have := c.isLt; have := q.isLt; show _ < 8; have : c.val < 8 := c.isLt; omega⟩
  else ⟨4 * (1 - c.val / 4) + q.val, by have := q.isLt; show _ < 8; omega⟩
/-- The result of device `c`. -/
def Tv (c : Dev nD) : Vec F S4096x1024 .bf16 := fun i =>
  Dv m (src c ⟨(i 0).val / 1024, by have := (lt_o i).1; omega⟩ ⟨(i 1).val / 128, by have := (lt_o i).2; omega⟩) (dn i)

theorem Tv_of_mem {c : Dev nD} {q : Fin 4} {k : Fin 8} {i : S4096x1024.Idx} (h : i ∈ qb q k) :
    Tv m c i = Dv m (src c q k) (dn i) := by
  obtain ⟨h0, h1⟩ := mem_qb.mp h
  unfold Tv
  congr 2
  · exact Fin.ext h0
  · exact Fin.ext h1

theorem src_own : ∀ (c : Dev nD) (k : Fin 8), src c (qd c) k = c := by decide +kernel
theorem src_y : ∀ (c : Dev nD) (j : Fin 7), src (ny c) (qd c) (mn c j.castSucc) = c := by decide +kernel
theorem src_z : ∀ (c : Dev nD) (j : Fin 7), src (nz c) (qd c) (mn c j.castSucc) = c := by decide +kernel
theorem src_ny : ∀ (c : Dev nD) (j : Fin 7), src (ny c) (qd (nz c)) (mn c j.castSucc) = src c (qd (nz c)) (mn c j.castSucc) := by
  decide +kernel
theorem src_nz : ∀ (c : Dev nD) (j : Fin 7), src (nz c) (qd (ny c)) (mn c j.castSucc) = src c (qd (ny c)) (mn c j.castSucc) := by
  decide +kernel
theorem src_nx : ∀ (c : Dev nD) (q : Fin 4), q ≠ qd c → src (nx c) q (mn c 0) = src c q (mn c 0) := by decide +kernel

theorem hb_sub {q : Fin 4} {b : Fin 2} {k : Fin 8} {i : S4096x1024.Idx} (h : i ∈ hb q b k) : i ∈ qb q k := by
  obtain ⟨h0, h1⟩ := mem_hb.mp h
  have := b.isLt
  exact mem_qb.mpr ⟨by omega, h1⟩

theorem hb_disj (q : Fin 4) (k : Fin 8) : Disjoint (hb q 0 k) (hb q 1 k) := by
  rw [Finset.disjoint_left]
  intro i h h'
  have h0 := (mem_hb.mp h).1
  have h1 := (mem_hb.mp h').1
  have : (i 0).val / 512 = 2 * q.val + 0 := h0
  have : (i 0).val / 512 = 2 * q.val + 1 := h1
  omega

theorem hb_union (q : Fin 4) (k : Fin 8) : hb q 0 k ∪ hb q 1 k = qb q k := by
  ext i
  rw [Finset.mem_union, mem_hb, mem_hb, mem_qb]
  show ((i 0).val / 512 = 2 * q.val + 0 ∧ _) ∨ ((i 0).val / 512 = 2 * q.val + 1 ∧ _) ↔ _
  constructor
  · rintro (⟨h, h'⟩ | ⟨h, h'⟩) <;> exact ⟨by omega, h'⟩
  · rintro ⟨h, h'⟩
    by_cases g : (i 0).val / 512 = 2 * q.val + 0
    · exact Or.inl ⟨g, h'⟩
    · exact Or.inr ⟨by omega, h'⟩

/-! ## What the transfers and the stores leave -/

/-- Contents that agree with the payload under the view are what the write leaves there. -/
theorem write_on {sp : Space} {s : Shape} {e : EltTy} (v : View sig .tc sp s e) (f T : v.ty.Contents (Elt F)) (w : s.Idx → Elt F e)
    (h : ∀ x, T (v.emb x) = _root_.cast (congrArg (Elt F) v.elt_eq.symm) (w x)) :
    ∀ i ∈ v.set, v.write (Elt F) f w Finset.univ i = T i := by
  intro i hi
  obtain ⟨x, -, rfl⟩ := Finset.mem_map.mp hi
  rw [View.write_emb_of_mem _ _ (Finset.mem_univ x)]
  exact (h x).symm

/-- A value at an index is the value at an index with the same coordinates. -/
theorem at_q {α : Type} (f : S1024x1024.Idx → α) {i j : S1024x1024.Idx} (h0 : (i 0).val = (j 0).val) (h1 : (i 1).val = (j 1).val) :
    f i = f j := by
  congr 1; funext a
  match a with
  | ⟨0, _⟩ => exact Fin.ext h0
  | ⟨1, _⟩ => exact Fin.ext h1
theorem at_o {α : Type} (f : S4096x1024.Idx → α) {i j : S4096x1024.Idx} (h0 : (i 0).val = (j 0).val) (h1 : (i 1).val = (j 1).val) :
    f i = f j := by
  congr 1; funext a
  match a with
  | ⟨0, _⟩ => exact Fin.ext h0
  | ⟨1, _⟩ => exact Fin.ext h1

/-- The fetch. -/
theorem fetched (d : Dev nD) (t : Fin 8) (f : Vec F S1024x1024 .f32) :
    ∀ i ∈ ck (th d t), (qq d t).view.write (Elt F) f ((xq d t).view.read (Elt F) (Xv m d)) Finset.univ i = Qv m d i := by
  rw [← rc1_set]
  have e : (qq d t).view.set = (rc1 d t).set := View.set_slice_whole _ _
  rw [← e]
  refine write_on (qq d t).view f (Qv m d) _ fun x => ?_
  show Xv m d (up (qd d) ((rc1 d t).emb x)) = Xv m d ((rc2 d t).emb x)
  have h1 := off1_eq d t
  have h2 := off2_eq d t
  refine at_o _ ?_ ?_
  · show 1024 * (qd d).val + (k0_off1 d (k0_off1_at t).1 (k0_off1_at t).2 0 + 1 * (x 0).val)
      = k0_off2 d (k0_off2_at t).1 (k0_off2_at t).2 0 + 1 * (x 0).val
    rw [h1, h2]
    show 1024 * (qd d).val + (0 + 1 * (x 0).val) = 1024 * (qd d).val + 1 * (x 0).val
    omega
  · show k0_off1 d (k0_off1_at t).1 (k0_off1_at t).2 1 + 1 * (x 1).val
      = k0_off2 d (k0_off2_at t).1 (k0_off2_at t).2 1 + 1 * (x 1).val
    rw [h1, h2]; rfl

/-- The narrowing. -/
theorem narrowed (d : Dev nD) (t : Fin 8) (f : Vec F S1024x1024 .bf16) :
    ∀ i ∈ ck (th d t), (sM.access (rc3 d t)).write (Elt F) f
      (k0_pay1 ((qM.access (rc3 d t)).read (Elt F) (Qv m d))) Finset.univ i = Sv m d i := by
  rw [← rc3_set]
  have e : (sM.access (rc3 d t)).set = (rc3 d t).set := View.set_slice_whole _ _
  rw [← e]
  refine write_on (sM.access (rc3 d t)) f (Sv m d) _ fun x => ?_
  unfold k0_pay1
  rw [shapeCast_self]
  rfl

/-- The transfer across x. -/
theorem crossed (d : Dev nD) (t : Fin 8) (f : Vec F S1024x1024 .bf16) :
    ∀ i ∈ ck (th d t), (rq d t).view.write (Elt F) f ((sq d t).view.read (Elt F) (Sv m d)) Finset.univ i = Sv m d i := by
  rw [← rc1_set]
  have e : (rq d t).view.set = (rc1 d t).set := View.set_slice_whole _ _
  rw [← e]
  exact write_on (rq d t).view f (Sv m d) _ fun x => rfl

/-- The sum. -/
theorem summed (d : Dev nD) (t : Fin 8) (f : Vec F S1024x1024 .bf16) :
    ∀ i ∈ ck (mn d t), (dM.access (rc4 d t)).write (Elt F) f
      (k0_pay10 ((sM.access (rc4 d t)).read (Elt F) (Sv m d)) ((rM.access (rc4 d t)).read (Elt F) (Sv m (nx d)))) Finset.univ i
        = Dv m d i := by
  rw [← rc4_set]
  have e : (dM.access (rc4 d t)).set = (rc4 d t).set := View.set_slice_whole _ _
  rw [← e]
  refine write_on (dM.access (rc4 d t)) f (Dv m d) _ fun x => ?_
  unfold k0_pay10
  rw [shapeCast_self]
  rfl

/-- A chunk of sums copied into the result of a device which takes that chunk from device `d`. -/
theorem placed (d e : Dev nD) (t : Fin 8) (h : src e (qd d) (mn d t) = d) (f : Vec F S4096x1024 .bf16) :
    ∀ i ∈ qb (qd d) (mn d t), (oq d t).view.write (Elt F) f ((dq d t).view.read (Elt F) (Dv m d)) Finset.univ i = Tv m e i := by
  rw [← rc5_set]
  have e' : (oq d t).view.set = (rc5 d t).set := View.set_slice_whole _ _
  rw [← e']
  refine write_on (oq d t).view f (Tv m e) _ fun x => ?_
  show Tv m e ((rc5 d t).emb x) = Dv m d ((rc6 d t).emb x)
  have hx : (rc5 d t).emb x ∈ qb (qd d) (mn d t) := by
    rw [← rc5_set, ← Rect.map_emb_univ]; exact Finset.mem_map_of_mem _ (Finset.mem_univ x)
  rw [Tv_of_mem m hx, h]
  have h5 := off5_eq d t
  have h6 := off6_eq d t
  have hx0 : (x 0).val < 1024 := (x 0).isLt
  refine at_q _ ?_ ?_
  · show (k0_off5 d (k0_off5_at t).1 (k0_off5_at t).2 0 + 1 * (x 0).val) % 1024
      = k0_off6 d (k0_off6_at t).1 (k0_off6_at t).2 0 + 1 * (x 0).val
    rw [h5, h6]
    show (1024 * (qd d).val + 1 * (x 0).val) % 1024 = 0 + 1 * (x 0).val
    omega
  · show k0_off5 d (k0_off5_at t).1 (k0_off5_at t).2 1 + 1 * (x 1).val
      = k0_off6 d (k0_off6_at t).1 (k0_off6_at t).2 1 + 1 * (x 1).val
    rw [h5, h6]; rfl

/-- A block of one result copied to the same place of another, where the two agree. -/
theorem passed (r : Rect S4096x1024) (hs : ∀ a, r.stride a = 1) (d e : Dev nD) (h : ∀ i ∈ r.set, Tv m e i = Tv m d i)
    (f : Vec F S4096x1024 .bf16) :
    ∀ i ∈ r.set, (oM.slice r hs).view.write (Elt F) f ((oM.slice r hs).view.read (Elt F) (Tv m d)) Finset.univ i = Tv m e i := by
  have e' : (oM.slice r hs).view.set = r.set := View.set_slice_whole _ _
  rw [← e']
  refine write_on (oM.slice r hs).view f (Tv m e) _ fun x => ?_
  show Tv m e (r.emb x) = Tv m d (r.emb x)
  exact h _ (by rw [← Rect.map_emb_univ]; exact Finset.mem_map_of_mem _ (Finset.mem_univ x))

theorem agree_y (d : Dev nD) (j : Fin 7) : ∀ i ∈ (rc7 d j).set, Tv m (ny d) i = Tv m d i := by
  intro i hi
  rw [rc7_set] at hi
  rw [Tv_of_mem m (hb_sub hi), Tv_of_mem m (hb_sub hi), src_ny]
theorem agree_z (d : Dev nD) (j : Fin 7) : ∀ i ∈ (rc8 d j).set, Tv m (nz d) i = Tv m d i := by
  intro i hi
  rw [rc8_set] at hi
  rw [Tv_of_mem m (hb_sub hi), Tv_of_mem m (hb_sub hi), src_nz]

theorem qd_ny_ne : ∀ d : Dev nD, qd (ny d) ≠ qd d := by decide +kernel
theorem qd_nz_ne : ∀ d : Dev nD, qd (nz d) ≠ qd d := by decide +kernel
theorem qd_nyz_ne : ∀ d : Dev nD, qd (ny (nz d)) ≠ qd d := by decide +kernel

theorem agree_x (d : Dev nD) (q : Fin 4) (h : q ≠ qd d) : ∀ i ∈ qb q (mn d 0), Tv m (nx d) i = Tv m d i := by
  intro i hi
  rw [Tv_of_mem m hi, Tv_of_mem m hi, src_nx d q h]

end Cert.KernelIdeal.Own

end
-- ==== Proof.Ideal.Sched.lean ====
/-
The protocol: which semaphore cell carries what, in what order a device pays, and the levels by which it may wait.

Every cell has one round. The barrier cell of a device has one duty for each neighbour, whose payload is the memory of
that neighbour the device will write into; a transfer's departure cell hands back the share of the source, its arrival
cell the destination at its new contents.
-/
module

public import proofs.«01_k».proof.Proof.Ideal.Common

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's rounds and this protocol's, whose duties are numbered 0, 1, 2. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The cells of a device: the barrier, the fetches, the local copies, the departures and the arrivals. -/
abbrev Cel : Type := Unit ⊕ Fin 8 ⊕ Fin 8 ⊕ (Fin 8 × Fin 8) ⊕ (Fin 8 × Fin 8)
abbrev cB : Cel := .inl ()
abbrev cI (t : Fin 8) : Cel := .inr (.inl t)
abbrev cO (t : Fin 8) : Cel := .inr (.inr (.inl t))
abbrev cS (p t : Fin 8) : Cel := .inr (.inr (.inr (.inl (p, t))))
abbrev cR (p t : Fin 8) : Cel := .inr (.inr (.inr (.inr (p, t))))

/-- The semaphore of a cell. -/
def sm : Cel → SemLoc sig
  | .inl _ => .reg barS
  | .inr (.inl t) => .dma (inS t)
  | .inr (.inr (.inl t)) => .dma (outS t)
  | .inr (.inr (.inr (.inl (p, t)))) => .dma (snS p t)
  | .inr (.inr (.inr (.inr (p, t)))) => .dma (rcS p t)

/-- The digits of a number below 64. -/
def dg (k : ℕ) : Fin 8 × Fin 8 := (⟨k / 8 % 8, Nat.mod_lt _ (by decide)⟩, ⟨k % 8, Nat.mod_lt _ (by decide)⟩)

/-- The cell of a semaphore. -/
def ce : SemLoc sig → Cel
  | .reg _ => cB
  | .dma k =>
    if k.val < 8 then cI (dg k.val).2
    else if k.val < 16 then cO (dg k.val).2
    else if k.val < 80 then cS (dg (k.val - 16)).1 (dg (k.val - 16)).2
    else cR (dg (k.val - 80)).1 (dg (k.val - 80)).2

theorem ce_sm : ∀ e : Cel, ce (sm e) = e := by decide +kernel
theorem sm_ce : ∀ s : SemLoc sig, sm (ce s) = s := by decide +kernel

/-- Cells and semaphores are the same. -/
def cells : Cel ≃ SemLoc sig := ⟨sm, ce, ce_sm, sm_ce⟩

theorem sm_inj {e e' : Cel} (h : sm e = sm e') : e = e' := cells.injective h

abbrev gc (c : Dev nD) (e : Cel) : GSem nD τ sig := ((c : Thread nD τ), sm e)

theorem gc_inj {c c' : Dev nD} {e e' : Cel} (h : gc c e = gc c' e') : c = c' ∧ e = e' := by
  have h1 : c = c' := congrArg (fun g : GSem nD τ sig => g.1.1) h
  exact ⟨h1, sm_inj (congrArg Prod.snd h)⟩

/-- The transfers there are: all eight of phase 0, seven of each of the phases 1 to 4, one of each of the phases 5 to 7. -/
def us (p t : Fin 8) : Bool := p.val = 0 || (p.val < 5 && t.val < 7) || (5 ≤ p.val && t.val = 0)

/-- What a transfer of a chunk of the argument credits, -/
abbrev NX : ℕ := (qq 0 0).view.dmaCredit
/-- of a chunk of the narrow format, -/
abbrev N1 : ℕ := (oq 0 0).view.dmaCredit
/-- and of half of one. -/
abbrev NH : ℕ := (oy 0 0).view.dmaCredit

example (d : Dev nD) (t : Fin 8) : (qq d t).view.dmaCredit = NX := rfl
example (d : Dev nD) (t : Fin 8) : (rq d t).view.dmaCredit = N1 := rfl
example (d : Dev nD) (t : Fin 8) : (sq d t).view.dmaCredit = N1 := rfl
example (d : Dev nD) (t : Fin 8) : (dq d t).view.dmaCredit = N1 := rfl
example (d : Dev nD) (t : Fin 8) : (oq d t).view.dmaCredit = N1 := rfl
example (d : Dev nD) (t : Fin 7) : (oz d t).view.dmaCredit = NH := rfl
example (d : Dev nD) : (o11 d).view.dmaCredit = N1 := rfl

theorem NX_pos : 0 < NX := View.dmaCredit_pos _ (by decide)
theorem N1_pos : 0 < N1 := View.dmaCredit_pos _ (by decide)
theorem NH_pos : 0 < NH := View.dmaCredit_pos _ (by decide)

/-- The amount of one duty of a cell. -/
def amt : Cel → ℕ
  | .inl _ => 1
  | .inr (.inl _) => NX
  | .inr (.inr (.inl _)) => N1
  | .inr (.inr (.inr (.inl (p, _)))) => if p = 3 ∨ p = 4 then NH else N1
  | .inr (.inr (.inr (.inr (p, _)))) => if p = 3 ∨ p = 4 then NH else N1

theorem amt_pos (e : Cel) : 0 < amt e := by
  rcases e with _ | t | t | ⟨p, t⟩ | ⟨p, t⟩
  · exact Nat.one_pos
  · exact NX_pos
  · exact N1_pos
  all_goals
    show 0 < if p = 3 ∨ p = 4 then NH else N1
    split
    · exact NH_pos
    · exact N1_pos

/-- The duties of a cell. -/
def dut : Cel → Finset (Fin 3)
  | .inl _ => Finset.univ
  | .inr (.inl _) => {0}
  | .inr (.inr (.inl _)) => {0}
  | .inr (.inr (.inr (.inl (p, t)))) => if us p t then {0} else ∅
  | .inr (.inr (.inr (.inr (p, t)))) => if us p t then {0} else ∅

/-! ## The payloads -/

variable (m : (ℓ : Loc nD τ sig) → Buf (Elt F) ℓ)

/-- Elements of the argument of device `c`, -/
abbrev xP (c : Dev nD) (S : Finset S4096x1024.Idx) (q : PosShare TreeShare) (f : Vec F S4096x1024 .f32) : sProp 𝕄 :=
  ((c : Thread nD τ).loc main_arg0) ↦[S]{q} f
/-- of its result, -/
abbrev oP (c : Dev nD) (S : Finset S4096x1024.Idx) (q : PosShare TreeShare) (f : Vec F S4096x1024 .bf16) : sProp 𝕄 :=
  ((c : Thread nD τ).loc main_v1) ↦[S]{q} f
/-- and of its four scratch buffers. -/
abbrev qP (c : Dev nD) (S : Finset S1024x1024.Idx) (q : PosShare TreeShare) (f : Vec F S1024x1024 .f32) : sProp 𝕄 :=
  ((c : Thread nD τ).loc cc0_scratch0) ↦[S]{q} f
abbrev sP (c : Dev nD) (S : Finset S1024x1024.Idx) (q : PosShare TreeShare) (f : Vec F S1024x1024 .bf16) : sProp 𝕄 :=
  ((c : Thread nD τ).loc cc0_scratch1) ↦[S]{q} f
abbrev rP (c : Dev nD) (S : Finset S1024x1024.Idx) (q : PosShare TreeShare) (f : Vec F S1024x1024 .bf16) : sProp 𝕄 :=
  ((c : Thread nD τ).loc cc0_scratch2) ↦[S]{q} f
abbrev dP (c : Dev nD) (S : Finset S1024x1024.Idx) (q : PosShare TreeShare) (f : Vec F S1024x1024 .bf16) : sProp 𝕄 :=
  ((c : Thread nD τ).loc cc0_scratch3) ↦[S]{q} f

/-- Half of the full share, and the halves of the other half. -/
abbrev hL : PosShare TreeShare := fullShare.left
abbrev hR : PosShare TreeShare := fullShare.right

/-- The chunks a device keeps sending along y and z, by turn. -/
abbrev mj (c : Dev nD) (j : Fin 7) : Fin 8 := mn c j.castSucc

/-- What the neighbour across x lets device `c` write. -/
def barX (c : Dev nD) : sProp 𝕄 :=
  iprop((bigSep Finset.univ fun t : Fin 8 => iprop(∃ f, rP (F := F) (nx c) (ck (th c t)) fullShare f))
    ∗ (∃ f, oP (F := F) (nx c) (qb (qd (ny c)) (mn c 0)) fullShare f)
    ∗ (∃ f, oP (F := F) (nx c) (qb (qd (nz c)) (mn c 0)) fullShare f)
    ∗ (∃ f, oP (F := F) (nx c) (qb (qd (ny (nz c))) (mn c 0)) fullShare f))
/-- What the neighbour across y lets it write, -/
def barY (c : Dev nD) : sProp 𝕄 :=
  iprop((bigSep Finset.univ fun j : Fin 7 => iprop(∃ f, oP (F := F) (ny c) (qb (qd c) (mj c j)) fullShare f))
    ∗ bigSep Finset.univ fun j : Fin 7 => iprop(∃ f, oP (F := F) (ny c) (hb (qd (nz c)) 0 (mj c j)) fullShare f))
/-- and the one across z. -/
def barZ (c : Dev nD) : sProp 𝕄 :=
  iprop((bigSep Finset.univ fun j : Fin 7 => iprop(∃ f, oP (F := F) (nz c) (qb (qd c) (mj c j)) fullShare f))
    ∗ bigSep Finset.univ fun j : Fin 7 => iprop(∃ f, oP (F := F) (nz c) (hb (qd (ny c)) 1 (mj c j)) fullShare f))
def barP (c : Dev nD) : Fin 3 → sProp 𝕄
  | 0 => barX (F := F) c
  | 1 => barY (F := F) c
  | 2 => barZ (F := F) c

/-- What the departure of transfer `t` of phase `p` hands back. -/
def sndP (c : Dev nD) (t : Fin 8) : Fin 8 → sProp 𝕄
  | 0 => sP c (ck (th c t)) hL (Sv m c)
  | 1 => dP c (ck (mn c t)) hR.left (Dv m c)
  | 2 => dP c (ck (mn c t)) hR.right (Dv m c)
  | 3 => oP c (hb (qd (nz c)) 0 (mn c t)) hL (Tv m c)
  | 4 => oP c (hb (qd (ny c)) 1 (mn c t)) hL (Tv m c)
  | 5 => oP c (qb (qd (ny c)) (mn c 0)) hR (Tv m c)
  | 6 => oP c (qb (qd (nz c)) (mn c 0)) hR (Tv m c)
  | 7 => oP c (qb (qd (ny (nz c))) (mn c 0)) hR (Tv m c)

/-- What its arrival hands over. -/
def rcvP (c : Dev nD) (t : Fin 8) : Fin 8 → sProp 𝕄
  | 0 => rP c (ck (mn c t)) fullShare (Sv m (nx c))
  | 1 => oP c (qb (qd (ny c)) (mn c t)) fullShare (Tv m c)
  | 2 => oP c (qb (qd (nz c)) (mn c t)) fullShare (Tv m c)
  | 3 => oP c (hb (qd (ny (nz c))) 0 (mn c t)) fullShare (Tv m c)
  | 4 => oP c (hb (qd (ny (nz c))) 1 (mn c t)) fullShare (Tv m c)
  | 5 => oP c (qb (qd (ny c)) (mn c 7)) fullShare (Tv m c)
  | 6 => oP c (qb (qd (nz c)) (mn c 7)) fullShare (Tv m c)
  | 7 => oP c (qb (qd (ny (nz c))) (mn c 7)) fullShare (Tv m c)

/-- What a fetch hands back, -/
def inP (c : Dev nD) (t : Fin 8) : sProp 𝕄 :=
  iprop(xP c (qb (qd c) (th c t)) fullShare (Xv m c) ∗ qP c (ck (th c t)) fullShare (Qv m c))
/-- and a local copy. -/
def outP (c : Dev nD) (t : Fin 8) : sProp 𝕄 :=
  iprop(oP c (qb (qd c) (mn c t)) fullShare (Tv m c) ∗ dP c (ck (mn c t)) hL (Dv m c))

/-- The payload of a duty of a cell. -/
def payP (c : Dev nD) (d : Fin 3) : Cel → sProp 𝕄
  | .inl _ => barP (F := F) c d
  | .inr (.inl t) => inP m c t
  | .inr (.inr (.inl t)) => outP m c t
  | .inr (.inr (.inr (.inl (p, t)))) => sndP m c t p
  | .inr (.inr (.inr (.inr (p, t)))) => rcvP m c t p

/-- The protocol. -/
def Rd : Rounds.Schedule (GSem nD τ sig) (Fin 3) 𝕄 where
  duties g r := if r = 0 ∧ g.1.2 = .tc then dut (ce g.2) else ∅
  unitless _ := False
  amount g _ _ := amt (ce g.2)
  payload g _ d := payP m g.1.1 d (ce g.2)
  amount_pos g _ _ _ := amt_pos _

instance payP_storable (c : Dev nD) (d : Fin 3) (e : Cel) : BI.Storable (upEmb : UEmb _ 𝕄) (payP (F := F) m c d e) := by
  rcases e with _ | t | t | ⟨p, t⟩ | ⟨p, t⟩
  · show BI.Storable upEmb (barP (F := F) c d)
    fin_cases d
    · show BI.Storable upEmb (barX (F := F) c); unfold barX; infer_instance
    · show BI.Storable upEmb (barY (F := F) c); unfold barY; infer_instance
    · show BI.Storable upEmb (barZ (F := F) c); unfold barZ; infer_instance
  · show BI.Storable upEmb (inP (F := F) m c t); unfold inP; infer_instance
  · show BI.Storable upEmb (outP (F := F) m c t); unfold outP; infer_instance
  · show BI.Storable upEmb (sndP (F := F) m c t p); unfold sndP; split <;> infer_instance
  · show BI.Storable upEmb (rcvP (F := F) m c t p); unfold rcvP; split <;> infer_instance

instance Rd_storable (g : GSem nD τ sig) (r : ℕ) (d : Fin 3) : BI.Storable (upEmb : UEmb _ 𝕄) ((Rd (F := F) m).payload g r d) :=
  payP_storable m _ _ _

theorem duties_gc (c : Dev nD) (e : Cel) : (Rd (F := F) m).duties (gc c e) 0 = dut e := by
  have h : (0 : ℕ) = 0 ∧ (gc c e).1.2 = .tc := ⟨rfl, rfl⟩
  change (if (0 : ℕ) = 0 ∧ (gc c e).1.2 = .tc then dut (ce (sm e)) else ∅) = dut e
  rw [if_pos h, ce_sm]
theorem duties_later (g : GSem nD τ sig) : ∀ r, 1 ≤ r → (Rd (F := F) m).duties g r = ∅ :=
  fun r hr => if_neg fun h => by omega
theorem amount_gc (c : Dev nD) (e : Cel) (d : Fin 3) : (Rd (F := F) m).amount (gc c e) 0 d = amt e := by
  show amt (ce (sm e)) = _; rw [ce_sm]
theorem payload_gc (c : Dev nD) (e : Cel) (d : Fin 3) : (Rd (F := F) m).payload (gc c e) 0 d = payP m c d e := by
  show payP m c d (ce (sm e)) = _; rw [ce_sm]

/-- A cell of one duty: what it expects and what it hands over. -/
theorem expect_one {c : Dev nD} {e : Cel} (h : dut e = {0}) : (Rd (F := F) m).expect (gc c e) 0 = amt e := by
  unfold Schedule.expect Schedule.amountOf
  rw [duties_gc, h, Finset.sum_singleton, amount_gc]
theorem rest_one {c : Dev nD} {e : Cel} (h : dut e = {0}) :
    bigSep ((Rd (F := F) m).duties (gc c e) 0 \ ∅) (fun d => (Rd (F := F) m).payload (gc c e) 0 d) = payP m c 0 e := by
  rw [Finset.sdiff_empty, duties_gc, h, bigSep_singleton, payload_gc]
/-- The barrier cell. -/
theorem expect_bar (c : Dev nD) : (Rd (F := F) m).expect (gc c cB) 0 = 3 := by
  unfold Schedule.expect Schedule.amountOf
  rw [duties_gc, Finset.sum_congr rfl fun d _ => amount_gc m c cB d]; rfl
theorem rest_bar (c : Dev nD) :
    bigSep ((Rd (F := F) m).duties (gc c cB) 0 \ ∅) (fun d => (Rd (F := F) m).payload (gc c cB) 0 d)
      = iprop(barX (F := F) c ∗ barY (F := F) c ∗ barZ (F := F) c) := by
  rw [Finset.sdiff_empty, duties_gc, show dut cB = Finset.univ from rfl, bigSep_univ_eq_bigSepL [0, 1, 2] (by decide) (by decide),
    bigSepL_cons_cons, bigSepL_cons_cons, bigSepL_singleton, payload_gc, payload_gc, payload_gc]
  rfl

/-! ## What a device owes, in the order it pays -/

/-- The neighbours, by axis. -/
def nb : Fin 3 → Dev nD → Dev nD
  | 0 => nx
  | 1 => ny
  | 2 => nz
theorem nb_nb : ∀ (a : Fin 3) (c : Dev nD), nb a (nb a c) = c := by decide +kernel

/-- Payment `i`: along which axis, to which cell. -/
def pay (i : ℕ) : Fin 3 × Cel :=
  if i < 3 then (⟨i % 3, Nat.mod_lt _ (by decide)⟩, cB)
  else if i < 11 then (0, cR 0 (dg (i - 3)).2)
  else if i < 25 then (if (i - 11) % 2 = 0 then (1, cR 1 (dg ((i - 11) / 2)).2) else (2, cR 2 (dg ((i - 11) / 2)).2))
  else if i < 39 then (if (i - 25) % 2 = 0 then (1, cR 3 (dg ((i - 25) / 2)).2) else (2, cR 4 (dg ((i - 25) / 2)).2))
  else (0, cR (dg (i - 39 + 5)).2 0)

/-- The duty of that payment. -/
def payT (c : Dev nD) (i : ℕ) : CellTallies nD τ sig Unit := tallyAt (gc (nb (pay i).1 c) (pay i).2) () (amt (pay i).2)

/-- What device `c` owes after `n` payments. -/
def Ow (c : Dev nD) (n : ℕ) : CellTallies nD τ sig Unit := ∑ i ∈ Finset.Ico n 42, payT c i

theorem Ico_cons {n k : ℕ} (h : n < k) : Finset.Ico n k = insert n (Finset.Ico (n + 1) k) := by
  ext i; rw [Finset.mem_insert, Finset.mem_Ico, Finset.mem_Ico]; omega

theorem Ow_step (c : Dev nD) (n : ℕ) (h : n < 42) (a : Fin 3) (e : Cel) (hp : pay n = (a, e)) :
    Ow c n = Ow c (n + 1) + tallyAt (gc (nb a c) e) () (amt e) := by
  unfold Ow
  rw [Ico_cons h, Finset.sum_insert (fun hm => by have := Finset.mem_Ico.mp hm; omega), add_comm]
  unfold payT
  rw [hp]
theorem Ow_end (c : Dev nD) : Ow c 42 = 0 := by unfold Ow; rw [Finset.Ico_self, Finset.sum_empty]

theorem Ow_pos {c : Dev nD} {n : ℕ} {g : GSem nD τ sig} {u : Unit} (h : 0 < Ow c n g u) :
    ∃ i : Fin 42, n ≤ i.val ∧ g = gc (nb (pay i).1 c) (pay i).2 := by
  unfold Ow at h
  rw [Finset.sum_apply, Finsupp.finset_sum_apply] at h
  obtain ⟨i, hi, hne⟩ := Finset.exists_ne_zero_of_sum_ne_zero (Nat.pos_iff_ne_zero.mp h)
  have hi' := Finset.mem_Ico.mp hi
  refine ⟨⟨i, hi'.2⟩, hi'.1, ?_⟩
  unfold payT at hne
  rw [tallyAt_apply] at hne
  by_contra hn
  exact hne (if_neg fun h' => hn h'.1)

/-! ## The levels -/

def L (g : GSem nD τ sig) : Finset Unit := if g.1.2 = .tc then {()} else ∅
/-- The levels: what a device waits for without anybody's help at 0, then the barrier, then the arrivals by phase. -/
def lvC : Cel → ℕ
  | .inl _ => 1
  | .inr (.inl _) => 0
  | .inr (.inr (.inl _)) => 0
  | .inr (.inr (.inr (.inl _))) => 0
  | .inr (.inr (.inr (.inr (p, _)))) => if p = 0 then 2 else if p.val < 3 then 3 else if p.val < 5 then 4 else 5
def lv (g : GSem nD τ sig) (_ : Unit) : ℕ := lvC (ce g.2)
theorem L_of_ne (g : GSem nD τ sig) (h : g.1.2 ≠ .tc) : L g = ∅ := if_neg h
theorem L_tc (c : Dev nD) (s : SemLoc sig) : L ((c : Thread nD τ), s) = {()} := if_pos rfl

/-- A device may wait on a cell below everything it still owes. -/
theorem mayWait (c : Dev nD) (e : Cel) (n : ℕ) (h : ∀ i : Fin 42, n ≤ i.val → lvC e < lvC (pay i).2) :
    (levAts L lv : sProp 𝕄) ⊢ MayWait (c : Thread nD τ) (sm e) () (Ow c n) :=
  MayOwe.of_cut (L := L) (lev := lv) (lvC e)
    (fun p hp => by rw [Finset.mem_singleton.mp hp, L_tc]; exact Finset.mem_singleton_self _)
    (fun g u hg => by obtain ⟨i, -, rfl⟩ := Ow_pos hg; rw [L_tc]; exact Finset.mem_singleton_self _)
    (fun p hp => by rw [Finset.mem_singleton.mp hp]; show lvC (ce (sm e)) ≤ _; rw [ce_sm])
    (fun g u hg => by obtain ⟨i, hi, rfl⟩ := Ow_pos hg; show _ < lvC (ce (sm _)); rw [ce_sm]; exact h i hi)

end Cert.KernelIdeal.Own

end
-- ==== Proof.Ideal.Steps.lean ====
/-
The steps of the body: what a device knows and owes as it goes, and the rules for a wait, a signal and a transfer in
those terms.
-/
module

public import proofs.«01_k».proof.Proof.Ideal.Sched

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## What a device holds -/

variable (m : (ℓ : Loc nD τ sig) → Buf (Elt F) ℓ) (κ : Dev nD × Cel → ℕ)

instance : DecidableEq Cel := inferInstance
instance : DecidableEq (Dev nD × Cel) := inferInstance

/-- What everybody knows: the levels, every cell's invariant, and that its round has begun. -/
def Kn : sProp 𝕄 :=
  iprop(levAts L lv ∗ (bigSep Finset.univ fun p : Dev nD × Cel => cellInv ER (Rd m) (κ p) (gc p.1 p.2))
    ∗ bigSep Finset.univ fun p : Dev nD × Cel => reached ER (gc p.1 p.2) 0)

instance Kn_persistent : BI.Persistent (Kn (F := F) m κ) := by unfold Kn; infer_instance

theorem Kn_lev : Kn (F := F) m κ ⊢ levAts L lv := by
  unfold Kn
  iintro ⟨H, -, -⟩
  iexact H
theorem Kn_inv (c : Dev nD) (e : Cel) : Kn (F := F) m κ ⊢ cellInv ER (Rd m) (κ (c, e)) (gc c e) := by
  have h : (bigSep Finset.univ fun p : Dev nD × Cel => cellInv ER (Rd (F := F) m) (κ p) (gc p.1 p.2))
      ⊢ cellInv ER (Rd m) (κ (c, e)) (gc c e) := bigSep_elim (Finset.mem_univ (c, e))
  unfold Kn
  iintro ⟨-, H, -⟩
  iapply h
  iexact H
theorem Kn_rch (c : Dev nD) (e : Cel) : Kn (F := F) m κ ⊢ reached ER (gc c e) 0 := by
  have h : (bigSep Finset.univ fun p : Dev nD × Cel => (reached ER (gc p.1 p.2) 0 : sProp 𝕄)) ⊢ reached ER (gc c e) 0 :=
    bigSep_elim (Finset.mem_univ (c, e))
  unfold Kn
  iintro ⟨-, -, H⟩
  iapply h
  iexact H

/-- The right to pay a duty of a cell, -/
abbrev tk (c : Dev nD) (e : Cel) (d : Fin 3) : sProp 𝕄 := dutyTok ER (gc c e) 0 d
/-- how far the owner is with a cell, -/
abbrev ps (c : Dev nD) (e : Cel) (n : ℕ) : sProp 𝕄 := atPos ER (gc c e) n ∅ 0
/-- and the credit to wait for it. -/
abbrev cr (c : Dev nD) (e : Cel) : sProp 𝕄 := cred (tallyAt (gc c e) () (amt e))

/-- Device `c` after `n` payments. -/
def St (c : Dev nD) (n : ℕ) : sProp 𝕄 := iprop(Kn m κ ∗ ∃ W, owes (c : Thread nD τ) (Ow c n) W)

/-- A program of device `c` reaches its postcondition. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Rules

variable {c : Dev nD} {α : Type} {Q : α → sProp (MT nD τ sig Unit (Elt F) ℕ UU ℕ)} {k : PUnit → Prog (TpuEff nD τ sig (Elt F) Λ₀ .tc) α}

/-- A wait on a cell of one duty. -/
theorem st_wait (e : Cel) (n : ℕ) {w : TpuEff nD τ sig (Elt F) Λ₀ .tc PUnit}
    (hw : ∀ K : PUnit → sProp 𝕄, wpE (defs₀ (F := F)) 𝒱₀ (c : Thread nD τ) none Set.univ w K
      = waitSpec (c : Thread nD τ) Set.univ (sm e) (amt e) K)
    (hd : dut e = {0}) (hl : ∀ i : Fin 42, n ≤ i.val → lvC e < lvC (pay i).2) :
    iprop(St m κ c n ∗ cr c e ∗ ps c e 0)
      ⊢ iprop(((St m κ c n ∗ ps c e 1 ∗ payP m c 0 e) -∗ WP c (k ⟨⟩) Q) -∗ WP c (.op w k) Q) := by
  unfold St
  iintro ⟨⟨#HK, ⟨%W, HO⟩⟩, Hc, Hp⟩ Hk
  iapply (Rounds.wp_wait_rest_token 𝒱₀ ER (Rd m) (c : Thread nD τ) none (κ := κ (c, e)) hw (Set.mem_univ _) ()
    (O := Ow c n) (W := W) (R := 0) (m := 0) (T := ∅) (by rw [Nat.zero_add, expect_one m hd])) $$ [HO Hc Hp]
  · isplitr; · iapply (Kn_inv m κ c e); iexact HK
    isplitl [Hc]; · iexact Hc
    isplitl [HO]; · iexact HO
    isplitr
    · iapply (mayWait c e n hl); iapply (Kn_lev m κ); iexact HK
    iexact Hp
  iintro ⟨HO, Hp, -, Hpay⟩
  ihave Hpay := (Entails.of_eq (rest_one m hd)) $$ Hpay
  iapply Hk
  isplitl [HO]
  · isplitr; · iexact HK
    iexists _; iexact HO
  isplitl [Hp]; · iexact Hp
  iexact Hpay

/-- A wait for a transfer. -/
theorem st_dma (e : Cel) (n : ℕ) {sp sp' : Space} {s : Shape} {el : EltTy} (src : Memref sig .tc sp s el) (dst : Memref sig .tc sp' s el)
    {ds : DmaSem sig} (hds : sm e = .dma ds) {hsrc : src.view.WordExact} {hdst : dst.view.WordExact} (hN : dst.view.dmaCredit = amt e)
    (hd : dut e = {0}) (hl : ∀ i : Fin 42, n ≤ i.val → lvC e < lvC (pay i).2) :
    iprop(St m κ c n ∗ cr c e ∗ ps c e 0)
      ⊢ iprop(((St m κ c n ∗ ps c e 1 ∗ payP m c 0 e) -∗ WP c (k ⟨⟩) Q) -∗ WP c (.op (.waitDma2 ds src dst hsrc hdst) k) Q) :=
  st_wait m κ e n (by rw [hds, ← hN]; exact wpE_waitDma2_eq 𝒱₀ (c : Thread nD τ) none Set.univ) hd hl

/-- The wait on the barrier. -/
theorem st_bar {w : TpuEff nD τ sig (Elt F) Λ₀ .tc PUnit}
    (hw : ∀ K : PUnit → sProp 𝕄, wpE (defs₀ (F := F)) 𝒱₀ (c : Thread nD τ) none Set.univ w K
      = waitSpec (c : Thread nD τ) Set.univ (sm cB) 3 K) :
    iprop(St m κ c 3 ∗ cred (tallyAt (gc c cB) () 3) ∗ ps c cB 0)
      ⊢ iprop(((St m κ c 3 ∗ ps c cB 1 ∗ barX (F := F) c ∗ barY (F := F) c ∗ barZ (F := F) c) -∗ WP c (k ⟨⟩) Q) -∗ WP c (.op w k) Q) := by
  unfold St
  iintro ⟨⟨#HK, ⟨%W, HO⟩⟩, Hc, Hp⟩ Hk
  iapply (Rounds.wp_wait_rest_token 𝒱₀ ER (Rd m) (c : Thread nD τ) none (κ := κ (c, cB)) hw (Set.mem_univ _) ()
    (O := Ow c 3) (W := W) (R := 0) (m := 0) (T := ∅) (by rw [Nat.zero_add, expect_bar])) $$ [HO Hc Hp]
  · isplitr; · iapply (Kn_inv m κ c cB); iexact HK
    isplitl [Hc]; · iexact Hc
    isplitl [HO]; · iexact HO
    isplitr
    · iapply (mayWait c cB 3 (by decide)); iapply (Kn_lev m κ); iexact HK
    iexact Hp
  iintro ⟨HO, Hp, -, Hpay⟩
  ihave Hpay := (Entails.of_eq (rest_bar m c)) $$ Hpay
  iapply Hk
  isplitl [HO]
  · isplitr; · iexact HK
    iexists _; iexact HO
  isplitl [Hp]; · iexact Hp
  iexact Hpay

/-- A signal to the neighbour along axis `a`. -/
theorem st_signal (n : ℕ) (a : Fin 3) (h : n < 42) (hp : pay n = (a, cB)) (d : Fin 3) :
    iprop(St m κ c n ∗ tk (nb a c) cB d ∗ barP (F := F) (nb a c) d)
      ⊢ iprop((St m κ c (n + 1) -∗ WP c (k ⟨⟩) Q)
          -∗ WP c (.op (.semSignal (nb a c : Thread nD τ) barS 1) k) Q) := by
  unfold St
  iintro ⟨⟨#HK, ⟨%W, HO⟩⟩, Ht, Hpay⟩ Hk
  iapply (Rounds.wp_signal 𝒱₀ ER (Rd m) (c : Thread nD τ) none (dst := (nb a c : Thread nD τ)) (κ := κ (nb a c, cB)) (r := 0) (d := d)
    (by rw [show ((nb a c : Thread nD τ), SemLoc.reg barS) = gc (nb a c) cB from rfl, duties_gc]; exact Finset.mem_univ _)
    (amount_gc m (nb a c) cB d) () (Ow c (n + 1)) (Ow_step c n h a cB hp)) $$ [HO Ht Hpay]
  · isplitr; · iapply (Kn_inv m κ (nb a c) cB); iexact HK
    isplitl [HO]; · iexact HO
    isplitl [Ht]; · iexact Ht
    isplitl [Hpay]
    · rw [show ((nb a c : Thread nD τ), SemLoc.reg barS) = gc (nb a c) cB from rfl, payload_gc,
        show payP m (nb a c) d cB = barP (F := F) (nb a c) d from rfl]; iexact Hpay
    iapply (Kn_rch m κ (nb a c) cB); iexact HK
  iintro HO
  iapply Hk
  isplitr; · iexact HK
  iexists _; iexact HO

/-- A local transfer. -/
theorem st_copy {sp sp' : Space} {s : Shape} {el : EltTy} {src : Memref sig .tc sp s el} {dst : Memref sig .tc sp' s el} (e : Cel) (n : ℕ)
    {hsrc : src.view.WordExact} {hdst : dst.view.WordExact} {hsem : DmaTarget.Typed (nD := nD) (τ := τ) (p := .tc) sp (sm e) (.here dst)}
    (hd : dut e = {0}) (hN : dst.view.amount (sm e) = amt e)
    {S : Finset (Idx (src.view.loc (c : Thread nD τ)))} {D : Finset (Idx (dst.view.loc (c : Thread nD τ)))}
    (hS : src.view.set = S) (hD : dst.view.set = D)
    {q : PosShare TreeShare} (fs : Buf (Elt F) (src.view.loc (c : Thread nD τ))) (T : Buf (Elt F) (dst.view.loc (c : Thread nD τ)))
    (hT : ∀ fd, ∀ i ∈ D, dst.view.write (Elt F) fd (src.view.read (Elt F) fs) Finset.univ i = T i)
    (hpay : iprop((dst.view.loc (c : Thread nD τ) ↦[D]{fullShare} T) ∗ (src.view.loc (c : Thread nD τ) ↦[S]{q} fs)) ⊢ payP m c 0 e) :
    iprop(St m κ c n ∗ (src.view.loc (c : Thread nD τ) ↦[S]{q} fs) ∗ (∃ fd, dst.view.loc (c : Thread nD τ) ↦[D]{fullShare} fd) ∗ tk c e 0)
      ⊢ iprop(((St m κ c n ∗ cr c e) -∗ WP c (k ⟨⟩) Q) -∗ WP c (.op (.enqueueDma src (.here dst) (sm e) hsrc hdst hsem) k) Q) := by
  subst hS hD
  unfold St
  iintro ⟨⟨#HK, HO⟩, Hs, ⟨%fd, Hd⟩, Ht⟩ Hk
  iapply (Rounds.wp_copy_pointsTo 𝒱₀ ER (Rd m) (c : Thread nD τ) none (r := 0) (d := 0) (κ := κ (c, e))
    (by rw [duties_gc, hd]; exact Finset.mem_singleton_self _) () (amt e) hN (amount_gc m c e 0)
    (by rw [payload_gc, pointsTo_congr (hT fd)]; exact hpay)) $$ [Hs Hd Ht]
  · isplitr; · iapply (Kn_inv m κ c e); iexact HK
    isplitl [Hs]; · iexact Hs
    isplitl [Hd]; · iexact Hd
    isplitl [Ht]; · iexact Ht
    iapply (Kn_rch m κ c e); iexact HK
  iintro Hc
  iapply Hk
  isplitr [Hc]
  · isplitr; · iexact HK
    iexact HO
  iexact Hc

/-- A transfer to the neighbour along axis `a`, whose departure is cell `e` and whose arrival is that neighbour's cell `e'`. -/
theorem st_send {sp sp' : Space} {s : Shape} {el : EltTy} {src : Memref sig .tc sp s el} {dst : Memref sig .tc sp' s el} (e e' : Cel)
    (n : ℕ) (a : Fin 3) (h : n < 42) (hp : pay n = (a, e'))
    {hsc : dst.view.ref.isScScratch = false}
    {hsrc : src.view.WordExact} {hdst : dst.view.WordExact} {hsem : DmaTarget.Typed sp (sm e') (.remote (nb a c : Thread nD τ) dst (sm e) hsc)}
    (hd : dut e = {0}) (hd' : dut e' = {0}) (hN : dst.view.amount (sm e') = amt e') (hN' : amt e = amt e')
    {S : Finset (Idx (src.view.loc (c : Thread nD τ)))} {D : Finset (Idx (dst.view.loc (nb a c : Thread nD τ)))}
    (hS : src.view.set = S) (hD : dst.view.set = D)
    {q : PosShare TreeShare} (fs : Buf (Elt F) (src.view.loc (c : Thread nD τ))) (T : Buf (Elt F) (dst.view.loc (nb a c : Thread nD τ)))
    (hT : ∀ fd, ∀ i ∈ D, dst.view.write (Elt F) fd (src.view.read (Elt F) fs) Finset.univ i = T i)
    (hpay : (src.view.loc (c : Thread nD τ) ↦[S]{q} fs) ⊢ payP m c 0 e)
    (hpay' : (dst.view.loc (nb a c : Thread nD τ) ↦[D]{fullShare} T) ⊢ payP m (nb a c) 0 e') :
    iprop(St m κ c n ∗ (src.view.loc (c : Thread nD τ) ↦[S]{q} fs) ∗ (∃ fd, dst.view.loc (nb a c : Thread nD τ) ↦[D]{fullShare} fd)
        ∗ tk c e 0 ∗ tk (nb a c) e' 0)
      ⊢ iprop(((St m κ c (n + 1) ∗ cr c e) -∗ WP c (k ⟨⟩) Q)
          -∗ WP c (.op (.enqueueDma src (.remote (nb a c : Thread nD τ) dst (sm e) hsc) (sm e') hsrc hdst hsem) k) Q) := by
  subst hS hD
  unfold St
  iintro ⟨⟨#HK, ⟨%W, HO⟩⟩, Hs, ⟨%fd, Hd⟩, Ht, Ht'⟩ Hk
  iapply (Rounds.wp_send_pointsTo 𝒱₀ ER (Rd m) (c : Thread nD τ) none (κ₁ := κ (c, e)) (κ₂ := κ (nb a c, e')) (r₁ := 0) (r₂ := 0)
    (d₁ := 0) (d₂ := 0) (fd := fd)
    (by rw [duties_gc, hd]; exact Finset.mem_singleton_self _) (by rw [duties_gc, hd']; exact Finset.mem_singleton_self _)
    () () (amt e') hN ((amount_gc m c e 0).trans hN') (amount_gc m (nb a c) e' 0) (Ow c (n + 1)) (Ow_step c n h a e' hp) (W := W)
    (by rw [payload_gc]; exact hpay)
    (by rw [payload_gc, pointsTo_congr (hT fd)]; exact hpay')) $$ [HO Hs Hd Ht Ht']
  · isplitr; · iapply (Kn_inv m κ c e); iexact HK
    isplitr; · iapply (Kn_inv m κ (nb a c) e'); iexact HK
    isplitl [Hs]; · iexact Hs
    isplitl [Hd]; · iexact Hd
    isplitl [HO]; · iexact HO
    isplitl [Ht]; · iexact Ht
    isplitr; · iapply (Kn_rch m κ c e); iexact HK
    isplitl [Ht']; · iexact Ht'
    iapply (Kn_rch m κ (nb a c) e'); iexact HK
  iintro ⟨Hc, HO⟩
  iapply Hk
  isplitl [HO]
  · isplitr; · iexact HK
    iexists _; iexact HO
  rw [← hN']
  iexact Hc

end Rules

/-! ## Loops -/

/-- A first part, then the rest. -/
theorem wp_then {c : Dev nD} {α : Type} {Q : α → sProp 𝕄} {p : PT F} {k : PUnit → Prog (TpuEff nD τ sig (Elt F) Λ₀ .tc) α} {X Y : sProp 𝕄}
    (h : X ⊢ WP c p fun _ => Y) : X ⊢ iprop((Y -∗ WP c (k ⟨⟩) Q) -∗ WP c (p >>= k) Q) := by
  iintro HX HY
  unfold WP
  rw [wp_bind]
  iapply wp_wand_r
  isplitl [HX]; · iapply h; iexact HX
  iintro %u HYY
  iapply HY
  iexact HYY

theorem list8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl
theorem list7 (Φ : Fin 7 → sProp 𝕄) :
    bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]; rfl

theorem wp_seq8 {c : Dev nD} (I : ℕ → sProp 𝕄) (A B : Fin 8 → sProp 𝕄) (f : Fin 8 → PT F)
    (h : ∀ t : Fin 8, iprop(I t.val ∗ A t) ⊢ WP c (f t) fun _ => iprop(I (t.val + 1) ∗ B t)) :
    iprop(I 0 ∗ bigSep Finset.univ A) ⊢ WP c (seq8 f) fun _ => iprop(I 8 ∗ bigSep Finset.univ B) := by
  rw [list8, list8]
  have h0 : iprop(I 0 ∗ A 0) ⊢ WP c (f 0) fun _ => iprop(I 1 ∗ B 0) := h 0
  have h1 : iprop(I 1 ∗ A 1) ⊢ WP c (f 1) fun _ => iprop(I 2 ∗ B 1) := h 1
  have h2 : iprop(I 2 ∗ A 2) ⊢ WP c (f 2) fun _ => iprop(I 3 ∗ B 2) := h 2
  have h3 : iprop(I 3 ∗ A 3) ⊢ WP c (f 3) fun _ => iprop(I 4 ∗ B 3) := h 3
  have h4 : iprop(I 4 ∗ A 4) ⊢ WP c (f 4) fun _ => iprop(I 5 ∗ B 4) := h 4
  have h5 : iprop(I 5 ∗ A 5) ⊢ WP c (f 5) fun _ => iprop(I 6 ∗ B 5) := h 5
  have h6 : iprop(I 6 ∗ A 6) ⊢ WP c (f 6) fun _ => iprop(I 7 ∗ B 6) := h 6
  have h7 : iprop(I 7 ∗ A 7) ⊢ WP c (f 7) fun _ => iprop(I 8 ∗ B 7) := h 7
  unfold seq8
  iintro ⟨HI, A0, A1, A2, A3, A4, A5, A6, A7⟩
  iapply (wp_then h0) $$ [HI A0]; · isplitl [HI] <;> iassumption
  iintro ⟨HI, B0⟩
  iapply (wp_then h1) $$ [HI A1]; · isplitl [HI] <;> iassumption
  iintro ⟨HI, B1⟩
  iapply (wp_then h2) $$ [HI A2]; · isplitl [HI] <;> iassumption
  iintro ⟨HI, B2⟩
  iapply (wp_then h3) $$ [HI A3]; · isplitl [HI] <;> iassumption
  iintro ⟨HI, B3⟩
  iapply (wp_then h4) $$ [HI A4]; · isplitl [HI] <;> iassumption
  iintro ⟨HI, B4⟩
  iapply (wp_then h5) $$ [HI A5]; · isplitl [HI] <;> iassumption
  iintro ⟨HI, B5⟩
  iapply (wp_then h6) $$ [HI A6]; · isplitl [HI] <;> iassumption
  iintro ⟨HI, B6⟩
  iapply wp_wand_r
  isplitl [HI A7]
  · iapply h7; isplitl [HI] <;> iassumption
  iintro %u ⟨HI, B7⟩
  isplitl [HI]; · iexact HI
  isplitl [B0]; · iexact B0
  isplitl [B1]; · iexact B1
  isplitl [B2]; · iexact B2
  isplitl [B3]; · iexact B3
  isplitl [B4]; · iexact B4
  isplitl [B5]; · iexact B5
  isplitl [B6] <;> iassumption

theorem wp_seq7 {c : Dev nD} (I : ℕ → sProp 𝕄) (A B : Fin 7 → sProp 𝕄) (f : Fin 7 → PT F)
    (h : ∀ t : Fin 7, iprop(I t.val ∗ A t) ⊢ WP c (f t) fun _ => iprop(I (t.val + 1) ∗ B t)) :
    iprop(I 0 ∗ bigSep Finset.univ A) ⊢ WP c (seq7 f) fun _ => iprop(I 7 ∗ bigSep Finset.univ B) := by
  rw [list7, list7]
  have h0 : iprop(I 0 ∗ A 0) ⊢ WP c (f 0) fun _ => iprop(I 1 ∗ B 0) := h 0
  have h1 : iprop(I 1 ∗ A 1) ⊢ WP c (f 1) fun _ => iprop(I 2 ∗ B 1) := h 1
  have h2 : iprop(I 2 ∗ A 2) ⊢ WP c (f 2) fun _ => iprop(I 3 ∗ B 2) := h 2
  have h3 : iprop(I 3 ∗ A 3) ⊢ WP c (f 3) fun _ => iprop(I 4 ∗ B 3) := h 3
  have h4 : iprop(I 4 ∗ A 4) ⊢ WP c (f 4) fun _ => iprop(I 5 ∗ B 4) := h 4
  have h5 : iprop(I 5 ∗ A 5) ⊢ WP c (f 5) fun _ => iprop(I 6 ∗ B 5) := h 5
  have h6 : iprop(I 6 ∗ A 6) ⊢ WP c (f 6) fun _ => iprop(I 7 ∗ B 6) := h 6
  unfold seq7
  iintro ⟨HI, A0, A1, A2, A3, A4, A5, A6⟩
  iapply (wp_then h0) $$ [HI A0]; · isplitl [HI] <;> iassumption
  iintro ⟨HI, B0⟩
  iapply (wp_then h1) $$ [HI A1]; · isplitl [HI] <;> iassumption
  iintro ⟨HI, B1⟩
  iapply (wp_then h2) $$ [HI A2]; · isplitl [HI] <;> iassumption
  iintro ⟨HI, B2⟩
  iapply (wp_then h3) $$ [HI A3]; · isplitl [HI] <;> iassumption
  iintro ⟨HI, B3⟩
  iapply (wp_then h4) $$ [HI A4]; · isplitl [HI] <;> iassumption
  iintro ⟨HI, B4⟩
  iapply (wp_then h5) $$ [HI A5]; · isplitl [HI] <;> iassumption
  iintro ⟨HI, B5⟩
  iapply wp_wand_r
  isplitl [HI A6]
  · iapply h6; isplitl [HI] <;> iassumption
  iintro %u ⟨HI, B6⟩
  isplitl [HI]; · iexact HI
  isplitl [B0]; · iexact B0
  isplitl [B1]; · iexact B1
  isplitl [B2]; · iexact B2
  isplitl [B3]; · iexact B3
  isplitl [B4]; · iexact B4
  isplitl [B5] <;> iassumption

end Cert.KernelIdeal.Own

end
-- ==== Proof.Ideal.Turns.lean ====
/-
The turns of the loops, each from what it needs to what it leaves, at any device and any turn.
-/
module

public import proofs.«01_k».proof.Proof.Ideal.Steps

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device holds -/

variable (m : (ℓ : Loc nD τ sig) → Buf (Elt F) ℓ) (κ : Dev nD × Cel → ℕ)

instance : DecidableEq Cel := inferInstance
instance : DecidableEq (Dev nD × Cel) := inferInstance
variable (m : (ℓ : Loc nD τ sig) → Buf (Elt F) ℓ) (κ : Dev nD × Cel → ℕ)

/-! ## The elements of the slices -/

theorem xq_set (c : Dev nD) (t : Fin 8) : (xq c t).view.set = qb (qd c) (th c t) := (View.set_slice_whole _ _).trans (rc2_set c t)
theorem qq_set (c : Dev nD) (t : Fin 8) : (qq c t).view.set = ck (th c t) := (View.set_slice_whole _ _).trans (rc1_set c t)
theorem sq_set (c : Dev nD) (t : Fin 8) : (sq c t).view.set = ck (th c t) := (View.set_slice_whole _ _).trans (rc1_set c t)
theorem rq_set (c : Dev nD) (t : Fin 8) : (rq c t).view.set = ck (th c t) := (View.set_slice_whole _ _).trans (rc1_set c t)
theorem dq_set (c : Dev nD) (t : Fin 8) : (dq c t).view.set = ck (mn c t) := (View.set_slice_whole _ _).trans (rc6_set c t)
theorem oq_set (c : Dev nD) (t : Fin 8) : (oq c t).view.set = qb (qd c) (mn c t) := (View.set_slice_whole _ _).trans (rc5_set c t)
theorem oy_set (c : Dev nD) (j : Fin 7) : (oy c j).view.set = hb (qd (nz c)) 0 (mj c j) := (View.set_slice_whole _ _).trans (rc7_set c j)
theorem oz_set (c : Dev nD) (j : Fin 7) : (oz c j).view.set = hb (qd (ny c)) 1 (mj c j) := (View.set_slice_whole _ _).trans (rc8_set c j)

/-! ## Which payment comes when -/

theorem pay_x : ∀ t : Fin 8, pay (3 + t.val) = (0, cR 0 t) := by decide
theorem pay_1 : ∀ j : Fin 7, pay (11 + 2 * j.val) = (1, cR 1 j.castSucc) := by decide
theorem pay_2 : ∀ j : Fin 7, pay (11 + 2 * j.val + 1) = (2, cR 2 j.castSucc) := by decide
theorem pay_3 : ∀ j : Fin 7, pay (25 + 2 * j.val) = (1, cR 3 j.castSucc) := by decide
theorem pay_4 : ∀ j : Fin 7, pay (25 + 2 * j.val + 1) = (2, cR 4 j.castSucc) := by decide

theorem us_0 : ∀ t : Fin 8, us 0 t = true := by decide
theorem us_j : ∀ (p : Fin 8) (j : Fin 7), p.val < 5 → us p j.castSucc = true := by decide
theorem us_l : ∀ p : Fin 8, 5 ≤ p.val → us p 0 = true := by decide
theorem dut_S {p t : Fin 8} (h : us p t = true) : dut (cS p t) = {0} := if_pos h
theorem dut_R {p t : Fin 8} (h : us p t = true) : dut (cR p t) = {0} := if_pos h

/-! ## The fetches -/

/-- Before the fetch of chunk `t`. -/
def inA (c : Dev nD) (t : Fin 8) : sProp 𝕄 :=
  iprop(xP c (qb (qd c) (th c t)) fullShare (Xv m c) ∗ (∃ f, qP (F := F) c (ck (th c t)) fullShare f) ∗ tk c (cI t) 0)

theorem in_turn (c : Dev nD) (n : ℕ) (t : Fin 8) :
    iprop(St m κ c n ∗ inA m c t) ⊢ WP c (pIn c t) fun _ => iprop(St m κ c n ∗ cr c (cI t)) := by
  unfold pIn inA
  simp only [Prog.lift]
  iintro ⟨HS, Hx, Hq, Ht⟩
  iapply (st_copy m κ (src := xq c t) (dst := qq c t) (cI t) n rfl rfl (xq_set c t) (qq_set c t) (q := fullShare) (Xv m c) (Qv m c) (fetched m c t)
    (by
      show _ ⊢ inP m c t
      unfold inP
      iintro ⟨H1, H2⟩
      isplitl [H2]; · iexact H2
      iexact H1)) $$ [HS Hx Hq Ht]
  · isplitl [HS]; · iexact HS
    isplitl [Hx]; · iexact Hx
    isplitl [Hq]; · iexact Hq
    iexact Ht
  iintro H
  unfold WP
  rw [wp_ret]; imodintro
  iexact H

/-! ## The levels at the waits -/

theorem lv_0 : ∀ i : Fin 42, 0 < lvC (pay i).2 := by decide
theorem lv_11 : ∀ i : Fin 42, 11 ≤ i.val → 2 < lvC (pay i).2 := by decide
theorem lv_25 : ∀ i : Fin 42, 25 ≤ i.val → 3 < lvC (pay i).2 := by decide
theorem lv_39 : ∀ i : Fin 42, 39 ≤ i.val → 4 < lvC (pay i).2 := by decide

/-- A share is its two halves. -/
theorem halves {ℓ : Loc nD τ sig} {S : Finset (Idx ℓ)} (q : PosShare TreeShare) {f : Buf (Elt F) ℓ} :
    (ℓ ↦[S]{q} f : sProp 𝕄) = iprop((ℓ ↦[S]{q.left} f) ∗ (ℓ ↦[S]{q.right} f)) :=
  (pointsTo_share (PosShare.mem_left_op_right q)).1.antisymm (pointsTo_share (PosShare.mem_left_op_right q)).2

/-! ## The first transfers across x -/

/-- Before chunk `t` leaves, apart from what the fetch and the barrier bring. -/
def xA (c : Dev nD) (t : Fin 8) : sProp 𝕄 :=
  iprop(ps c (cI t) 0 ∗ (∃ f, sP (F := F) c (ck (th c t)) fullShare f) ∗ tk c (cS 0 t) 0 ∗ tk (nx c) (cR 0 t) 0)
/-- What of it stays to the end. -/
def xK (c : Dev nD) (t : Fin 8) : sProp 𝕄 :=
  iprop(ps c (cI t) 1 ∗ xP c (qb (qd c) (th c t)) fullShare (Xv m c) ∗ qP c (ck (th c t)) fullShare (Qv m c))
/-- After. -/
def xB (c : Dev nD) (t : Fin 8) : sProp 𝕄 := iprop(xK m c t ∗ sP c (ck (th c t)) hR (Sv m c) ∗ cr c (cS 0 t))

theorem acc_q3 (c : Dev nD) (t : Fin 8) : (qM.access (rc3 c t)).set ⊆ ck (th c t) :=
  subset_of_eq ((View.set_slice_whole _ _).trans (rc3_set c t))
theorem acc_s3 (c : Dev nD) (t : Fin 8) : (sM.access (rc3 c t)).set ⊆ ck (th c t) :=
  subset_of_eq ((View.set_slice_whole _ _).trans (rc3_set c t))

theorem x_turn (c : Dev nD) (t : Fin 8) :
    iprop(St m κ c (3 + t.val) ∗ cr c (cI t) ∗ (∃ f, rP (F := F) (nx c) (ck (th c t)) fullShare f) ∗ xA (F := F) c t)
      ⊢ WP c (pX c t) fun _ => iprop(St m κ c (3 + (t.val + 1)) ∗ xB m c t) := by
  unfold pX xA xB xK
  simp only [Prog.lift, Prog.bind_op, Prog.bind_ret]
  iintro ⟨HS, Hc, Hr, Hp, ⟨%f, Hs⟩, Ht, Ht'⟩
  iapply (st_dma m κ (cI t) (3 + t.val) (xq c t) (qq c t) rfl rfl rfl (fun i _ => lv_0 i)) $$ [HS Hc Hp]
  · isplitl [HS]; · iexact HS
    isplitl [Hc] <;> iassumption
  iintro ⟨HS, Hp, Hpay⟩
  ihave Hpay := (Entails.of_eq (show payP m c 0 (cI t)
    = iprop(xP c (qb (qd c) (th c t)) fullShare (Xv m c) ∗ qP c (ck (th c t)) fullShare (Qv m c)) from rfl)) $$ Hpay
  icases Hpay with ⟨Hx, Hq⟩
  iapply (wp_load_rect 𝒱₀ (c : Thread nD τ) none Set.univ (m := qM) (r := rc3 c t) (acc_q3 c t)) $$ Hq; iintro Hq
  iapply (wp_load_rect 𝒱₀ (c : Thread nD τ) none Set.univ (m := sM) (r := rc3 c t) (acc_s3 c t)) $$ Hs; iintro Hs
  iapply (wp_store 𝒱₀ (c : Thread nD τ) none Set.univ (m := sM) (r := rc3 c t) (Mk := Finset.univ) (acc_s3 c t)) $$ Hs; iintro Hs
  ihave Hs := (Entails.of_eq ((pointsTo_congr (narrowed m c t f)).trans (halves fullShare))) $$ Hs
  icases Hs with ⟨Hs, Hs'⟩
  iapply (st_send m κ (src := sq c t) (dst := rq c t) (cS 0 t) (cR 0 t) (3 + t.val) 0 (by have := t.isLt; omega) (pay_x t)
    (dut_S (us_0 t)) (dut_R (us_0 t)) rfl rfl (sq_set c t) (rq_set c t) (q := hL) (Sv m c) (Sv m c) (crossed m c t) (Entails.refl _)
    (by
      show _ ⊢ rP (nx c) (ck (mn (nx c) t)) fullShare (Sv m (nx (nx c)))
      rw [nx_nx, mn_nx]
      exact Entails.refl _)) $$ [HS Hs Hr Ht Ht']
  · isplitl [HS]; · iexact HS
    isplitl [Hs]; · iexact Hs
    isplitl [Hr]; · iexact Hr
    isplitl [Ht]; · iexact Ht
    iexact Ht'
  iintro ⟨HS, Hc⟩
  unfold WP
  rw [wp_ret]; imodintro
  isplitl [HS]; · iexact HS
  isplitl [Hp Hx Hq]
  · isplitl [Hp]; · iexact Hp
    isplitl [Hx] <;> iassumption
  isplitl [Hs'] <;> iassumption

/-! ## The barrier -/

/-- What a device signals its three neighbours with, and waits with. -/
def bA (c : Dev nD) : sProp 𝕄 :=
  iprop((tk (nx c) cB 0 ∗ tk (ny c) cB 1 ∗ tk (nz c) cB 2)
    ∗ (barX (F := F) (nx c) ∗ barY (F := F) (ny c) ∗ barZ (F := F) (nz c)) ∗ cred (tallyAt (gc c cB) () 3) ∗ ps c cB 0)

theorem bar_turn (c : Dev nD) :
    iprop(St m κ c 0 ∗ bA (F := F) c)
      ⊢ WP c (pBar c) fun _ => iprop(St m κ c 3 ∗ ps c cB 1 ∗ barX (F := F) c ∗ barY (F := F) c ∗ barZ (F := F) c) := by
  unfold pBar bA
  simp only [Prog.lift, Prog.bind_op, Prog.bind_ret, semSignalWord, semWaitWord]
  iintro ⟨HS, ⟨T0, T1, T2⟩, ⟨B0, B1, B2⟩, Hc, Hp⟩
  iapply (st_signal m κ 0 0 (by decide) (by decide) 0) $$ [HS T0 B0]
  · isplitl [HS]; · iexact HS
    isplitl [T0]; · iexact T0
    iapply (Entails.of_eq (show barX (F := F) (nx c) = barP (nb 0 c) 0 from rfl)); iexact B0
  iintro HS
  iapply (st_signal m κ 1 1 (by decide) (by decide) 1) $$ [HS T1 B1]
  · isplitl [HS]; · iexact HS
    isplitl [T1]; · iexact T1
    iapply (Entails.of_eq (show barY (F := F) (ny c) = barP (nb 1 c) 1 from rfl)); iexact B1
  iintro HS
  iapply (st_signal m κ 2 2 (by decide) (by decide) 2) $$ [HS T2 B2]
  · isplitl [HS]; · iexact HS
    isplitl [T2]; · iexact T2
    iapply (Entails.of_eq (show barZ (F := F) (nz c) = barP (nb 2 c) 2 from rfl)); iexact B2
  iintro HS
  iapply (st_bar m κ (wpE_semWait_eq 𝒱₀ (c : Thread nD τ) none Set.univ)) $$ [HS Hc Hp]
  · isplitl [HS]; · iexact HS
    isplitl [Hc] <;> iassumption
  iintro H
  unfold WP
  rw [wp_ret]; imodintro
  iexact H

/-! ## The sums -/

/-- Before chunk `t` is summed, apart from the share of it the device kept and the credit of its departure. -/
def sA (c : Dev nD) (t : Fin 8) : sProp 𝕄 :=
  iprop(ps c (cS 0 t) 0 ∗ cr c (cR 0 t) ∗ ps c (cR 0 t) 0 ∗ (∃ f, dP (F := F) c (ck (mn c t)) fullShare f)
    ∗ (∃ f, oP (F := F) c (qb (qd c) (mn c t)) fullShare f) ∗ tk c (cO t) 0)
/-- What comes back of the exchange across x. -/
def sK (c : Dev nD) (t : Fin 8) : sProp 𝕄 :=
  iprop(ps c (cS 0 t) 1 ∗ ps c (cR 0 t) 1 ∗ sP c (ck (th c t)) hL (Sv m c) ∗ sP c (ck (mn c t)) hR (Sv m c)
    ∗ rP c (ck (mn c t)) fullShare (Sv m (nx c)))
def sB (c : Dev nD) (t : Fin 8) : sProp 𝕄 := iprop(sK m c t ∗ cr c (cO t))

theorem acc_s4 (c : Dev nD) (t : Fin 8) : (sM.access (rc4 c t)).set ⊆ ck (mn c t) :=
  subset_of_eq ((View.set_slice_whole _ _).trans (rc4_set c t))
theorem acc_r4 (c : Dev nD) (t : Fin 8) : (rM.access (rc4 c t)).set ⊆ ck (mn c t) :=
  subset_of_eq ((View.set_slice_whole _ _).trans (rc4_set c t))
theorem acc_d4 (c : Dev nD) (t : Fin 8) : (dM.access (rc4 c t)).set ⊆ ck (mn c t) :=
  subset_of_eq ((View.set_slice_whole _ _).trans (rc4_set c t))

theorem sum_turn (c : Dev nD) (n : ℕ) (hn : 11 ≤ n) (t : Fin 8) :
    iprop(St m κ c n ∗ cr c (cS 0 t) ∗ sP c (ck (mn c t)) hR (Sv m c) ∗ sA (F := F) c t)
      ⊢ WP c (pSum c t) fun _ => iprop(St m κ c n ∗ dP c (ck (mn c t)) hR (Dv m c) ∗ sB m c t) := by
  unfold pSum sA sB sK
  simp only [Prog.lift, Prog.bind_op, Prog.bind_ret]
  iintro ⟨HS, Hc, Hs, Hp, Hc', Hp', ⟨%f, Hd⟩, Ho, Ht⟩
  iapply (st_dma m κ (cS 0 t) n (rq c t) (sq c t) rfl rfl (dut_S (us_0 t)) (fun i _ => lv_0 i)) $$ [HS Hc Hp]
  · isplitl [HS]; · iexact HS
    isplitl [Hc] <;> iassumption
  iintro ⟨HS, Hp, Hs'⟩
  ihave Hs' := (Entails.of_eq (show payP m c 0 (cS 0 t) = sP c (ck (th c t)) hL (Sv m c) from rfl)) $$ Hs'
  iapply (st_dma m κ (cR 0 t) n (sq c t) (rq c t) rfl rfl (dut_R (us_0 t)) (fun i hi => lv_11 i (hn.trans hi))) $$ [HS Hc' Hp']
  · isplitl [HS]; · iexact HS
    isplitl [Hc'] <;> iassumption
  iintro ⟨HS, Hp', Hr⟩
  ihave Hr := (Entails.of_eq (show payP m c 0 (cR 0 t) = rP c (ck (mn c t)) fullShare (Sv m (nx c)) from rfl)) $$ Hr
  iapply (wp_load_rect 𝒱₀ (c : Thread nD τ) none Set.univ (m := sM) (r := rc4 c t) (acc_s4 c t)) $$ Hs; iintro Hs
  iapply (wp_load_rect 𝒱₀ (c : Thread nD τ) none Set.univ (m := rM) (r := rc4 c t) (acc_r4 c t)) $$ Hr; iintro Hr
  iapply (wp_load_rect 𝒱₀ (c : Thread nD τ) none Set.univ (m := dM) (r := rc4 c t) (acc_d4 c t)) $$ Hd; iintro Hd
  iapply (wp_store 𝒱₀ (c : Thread nD τ) none Set.univ (m := dM) (r := rc4 c t) (Mk := Finset.univ) (acc_d4 c t)) $$ Hd; iintro Hd
  ihave Hd := (Entails.of_eq ((pointsTo_congr (summed m c t f)).trans (halves fullShare))) $$ Hd
  icases Hd with ⟨Hd, Hd'⟩
  iapply (st_copy m κ (src := dq c t) (dst := oq c t) (cO t) n rfl rfl (dq_set c t) (oq_set c t) (q := hL) (Dv m c) (Tv m c)
    (placed m c c t (src_own c _)) (Entails.refl _)) $$ [HS Hd Ho Ht]
  · isplitl [HS]; · iexact HS
    isplitl [Hd]; · iexact Hd
    isplitl [Ho]; · iexact Ho
    iexact Ht
  iintro ⟨HS, Hc⟩
  unfold WP
  rw [wp_ret]; imodintro
  isplitl [HS]; · iexact HS
  isplitl [Hd']; · iexact Hd'
  isplitr [Hc]
  · isplitl [Hp]; · iexact Hp
    isplitl [Hp']; · iexact Hp'
    isplitl [Hs']; · iexact Hs'
    isplitl [Hs] <;> iassumption
  iexact Hc

/-- The tokens for the sums' way round y and z. -/
def hA (c : Dev nD) (j : Fin 7) : sProp 𝕄 :=
  iprop(tk c (cS 1 j.castSucc) 0 ∗ tk (ny c) (cR 1 j.castSucc) 0 ∗ tk c (cS 2 j.castSucc) 0 ∗ tk (nz c) (cR 2 j.castSucc) 0)

theorem s_turn (c : Dev nD) (j : Fin 7) :
    iprop(St m κ c (11 + 2 * j.val) ∗ (cr c (cS 0 j.castSucc) ∗ sP c (ck (mj c j)) hR (Sv m c) ∗ sA (F := F) c j.castSucc)
        ∗ (∃ f, oP (F := F) (ny c) (qb (qd c) (mj c j)) fullShare f) ∗ (∃ f, oP (F := F) (nz c) (qb (qd c) (mj c j)) fullShare f)
        ∗ hA (F := F) c j)
      ⊢ WP c (pS c j) fun _ => iprop(St m κ c (11 + 2 * (j.val + 1))
        ∗ sB m c j.castSucc ∗ cr c (cS 1 j.castSucc) ∗ cr c (cS 2 j.castSucc)) := by
  have hj := j.isLt
  unfold pS hA
  iintro ⟨HS, HA, Hy, Hz, T1, T1', T2, T2'⟩
  iapply (wp_then (sum_turn m κ c (11 + 2 * j.val) (by omega) j.castSucc)) $$ [HS HA]
  · isplitl [HS]; · iexact HS
    iexact HA
  iintro ⟨HS, Hd, HB⟩
  ihave Hd := (Entails.of_eq (halves hR)) $$ Hd
  icases Hd with ⟨Hd, Hd'⟩
  unfold pH1
  simp only [Prog.lift, Prog.bind_op, Prog.bind_ret]
  iapply (st_send m κ (src := dq c j.castSucc) (dst := oq c j.castSucc) (cS 1 j.castSucc) (cR 1 j.castSucc) (11 + 2 * j.val) 1 (by omega) (pay_1 j)
    (dut_S (us_j 1 j (by decide))) (dut_R (us_j 1 j (by decide))) rfl rfl (dq_set c _) (oq_set c _) (q := hR.left) (Dv m c) (Tv m (ny c))
    (placed m c (ny c) _ (src_y c j)) (Entails.refl _)
    (by
      show _ ⊢ oP (ny c) (qb (qd (ny (ny c))) (mn (ny c) j.castSucc)) fullShare (Tv m (ny c))
      rw [ny_ny, mn_ny]
      exact Entails.refl _)) $$ [HS Hd Hy T1 T1']
  · isplitl [HS]; · iexact HS
    isplitl [Hd]; · iexact Hd
    isplitl [Hy]; · iexact Hy
    isplitl [T1]; · iexact T1
    iexact T1'
  iintro ⟨HS, C1⟩
  iapply (st_send m κ (src := dq c j.castSucc) (dst := oq c j.castSucc) (cS 2 j.castSucc) (cR 2 j.castSucc) (11 + 2 * j.val + 1) 2 (by omega) (pay_2 j)
    (dut_S (us_j 2 j (by decide))) (dut_R (us_j 2 j (by decide))) rfl rfl (dq_set c _) (oq_set c _) (q := hR.right) (Dv m c) (Tv m (nz c))
    (placed m c (nz c) _ (src_z c j)) (Entails.refl _)
    (by
      show _ ⊢ oP (nz c) (qb (qd (nz (nz c))) (mn (nz c) j.castSucc)) fullShare (Tv m (nz c))
      rw [nz_nz, mn_nz]
      exact Entails.refl _)) $$ [HS Hd' Hz T2 T2']
  · isplitl [HS]; · iexact HS
    isplitl [Hd']; · iexact Hd'
    isplitl [Hz]; · iexact Hz
    isplitl [T2]; · iexact T2
    iexact T2'
  iintro ⟨HS, C2⟩
  unfold WP
  rw [wp_ret]; imodintro
  isplitl [HS]; · iexact HS
  isplitl [HB]; · iexact HB
  isplitl [C1] <;> iassumption

/-! ## Passing the neighbours' chunks on -/

/-- A chunk of a quarter is its two halves. -/
theorem two_halves (c : Dev nD) (q : Fin 4) (k : Fin 8) (s : PosShare TreeShare) (f : Vec F S4096x1024 .bf16) :
    oP c (qb q k) s f = iprop(oP c (hb q 0 k) s f ∗ oP c (hb q 1 k) s f) := by
  rw [← hb_union]
  exact (pointsTo_union (hb_disj q k)).1.antisymm (pointsTo_union (hb_disj q k)).2

def fA (c : Dev nD) (j : Fin 7) : sProp 𝕄 :=
  iprop((ps c (cS 1 j.castSucc) 0 ∗ ps c (cS 2 j.castSucc) 0 ∗ ps c (cR 1 j.castSucc) 0 ∗ ps c (cR 2 j.castSucc) 0)
    ∗ (cr c (cR 1 j.castSucc) ∗ cr c (cR 2 j.castSucc))
    ∗ tk c (cS 3 j.castSucc) 0 ∗ tk (ny c) (cR 3 j.castSucc) 0 ∗ tk c (cS 4 j.castSucc) 0 ∗ tk (nz c) (cR 4 j.castSucc) 0)
def fB (c : Dev nD) (j : Fin 7) : sProp 𝕄 :=
  iprop((ps c (cS 1 j.castSucc) 1 ∗ ps c (cS 2 j.castSucc) 1 ∗ ps c (cR 1 j.castSucc) 1 ∗ ps c (cR 2 j.castSucc) 1)
    ∗ (dP c (ck (mj c j)) hR.left (Dv m c) ∗ dP c (ck (mj c j)) hR.right (Dv m c))
    ∗ oP c (hb (qd (ny c)) 0 (mj c j)) hL (Tv m c) ∗ oP c (hb (qd (nz c)) 1 (mj c j)) hL (Tv m c))

theorem qd_yzy : ∀ c : Dev nD, qd (ny (nz (ny c))) = qd (nz c) := by decide +kernel

theorem f_turn (c : Dev nD) (j : Fin 7) :
    iprop(St m κ c (25 + 2 * j.val) ∗ (cr c (cS 1 j.castSucc) ∗ cr c (cS 2 j.castSucc))
        ∗ (∃ f, oP (F := F) (ny c) (hb (qd (nz c)) 0 (mj c j)) fullShare f) ∗ (∃ f, oP (F := F) (nz c) (hb (qd (ny c)) 1 (mj c j)) fullShare f)
        ∗ fA (F := F) c j)
      ⊢ WP c (pF c j) fun _ => iprop(St m κ c (25 + 2 * (j.val + 1))
        ∗ fB m c j ∗ (oP c (qb (qd (ny c)) (mj c j)) hR (Tv m c) ∗ oP c (qb (qd (nz c)) (mj c j)) hR (Tv m c))
        ∗ cr c (cS 3 j.castSucc) ∗ cr c (cS 4 j.castSucc)) := by
  have hj := j.isLt
  unfold pF wH1 pH2Y pH2Z fA fB
  simp only [Prog.lift, Prog.bind_op, Prog.bind_ret]
  iintro ⟨HS, ⟨C1, C2⟩, Hy, Hz, ⟨P1, P2, P1', P2'⟩, ⟨C1', C2'⟩, T3, T3', T4, T4'⟩
  iapply (st_dma m κ (cS 2 j.castSucc) (25 + 2 * j.val) (oq c j.castSucc) (dq c j.castSucc) rfl rfl (dut_S (us_j 2 j (by decide))) (fun i _ => lv_0 i))
    $$ [HS C2 P2]
  · isplitl [HS]; · iexact HS
    isplitl [C2] <;> iassumption
  iintro ⟨HS, P2, D2⟩
  ihave D2 := (Entails.of_eq (show payP m c 0 (cS 2 j.castSucc) = dP c (ck (mj c j)) hR.right (Dv m c) from rfl)) $$ D2
  iapply (st_dma m κ (cR 2 j.castSucc) (25 + 2 * j.val) (dq c j.castSucc) (oq c j.castSucc) rfl rfl (dut_R (us_j 2 j (by decide)))
    (fun i hi => lv_25 i (by omega))) $$ [HS C2' P2']
  · isplitl [HS]; · iexact HS
    isplitl [C2'] <;> iassumption
  iintro ⟨HS, P2', O2⟩
  ihave O2 := (Entails.of_eq ((show payP m c 0 (cR 2 j.castSucc) = oP c (qb (qd (nz c)) (mj c j)) fullShare (Tv m c) from rfl).trans
    (halves fullShare))) $$ O2
  icases O2 with ⟨O2, O2'⟩
  ihave O2 := (Entails.of_eq (two_halves c _ _ _ _)) $$ O2
  icases O2 with ⟨U2, L2⟩
  iapply (st_send m κ (src := oy c j) (dst := oy c j) (cS 3 j.castSucc) (cR 3 j.castSucc) (25 + 2 * j.val) 1 (by omega) (pay_3 j)
    (dut_S (us_j 3 j (by decide))) (dut_R (us_j 3 j (by decide))) rfl rfl (oy_set c j) (oy_set c j) (q := hL) (Tv m c) (Tv m (ny c))
    (by rw [← rc7_set]; exact passed m (rc7 c j) (fun _ => rfl) c (ny c) (agree_y m c j)) (Entails.refl _)
    (by
      show _ ⊢ oP (ny c) (hb (qd (ny (nz (ny c)))) 0 (mn (ny c) j.castSucc)) fullShare (Tv m (ny c))
      rw [qd_yzy, mn_ny]
      exact Entails.refl _)) $$ [HS U2 Hy T3 T3']
  · isplitl [HS]; · iexact HS
    isplitl [U2]; · iexact U2
    isplitl [Hy]; · iexact Hy
    isplitl [T3]; · iexact T3
    iexact T3'
  iintro ⟨HS, C3⟩
  iapply (st_dma m κ (cS 1 j.castSucc) (25 + 2 * j.val + 1) (oq c j.castSucc) (dq c j.castSucc) rfl rfl (dut_S (us_j 1 j (by decide))) (fun i _ => lv_0 i))
    $$ [HS C1 P1]
  · isplitl [HS]; · iexact HS
    isplitl [C1] <;> iassumption
  iintro ⟨HS, P1, D1⟩
  ihave D1 := (Entails.of_eq (show payP m c 0 (cS 1 j.castSucc) = dP c (ck (mj c j)) hR.left (Dv m c) from rfl)) $$ D1
  iapply (st_dma m κ (cR 1 j.castSucc) (25 + 2 * j.val + 1) (dq c j.castSucc) (oq c j.castSucc) rfl rfl (dut_R (us_j 1 j (by decide)))
    (fun i hi => lv_25 i (by omega))) $$ [HS C1' P1']
  · isplitl [HS]; · iexact HS
    isplitl [C1'] <;> iassumption
  iintro ⟨HS, P1', O1⟩
  ihave O1 := (Entails.of_eq ((show payP m c 0 (cR 1 j.castSucc) = oP c (qb (qd (ny c)) (mj c j)) fullShare (Tv m c) from rfl).trans
    (halves fullShare))) $$ O1
  icases O1 with ⟨O1, O1'⟩
  ihave O1 := (Entails.of_eq (two_halves c _ _ _ _)) $$ O1
  icases O1 with ⟨U1, L1⟩
  iapply (st_send m κ (src := oz c j) (dst := oz c j) (cS 4 j.castSucc) (cR 4 j.castSucc) (25 + 2 * j.val + 1) 2 (by omega) (pay_4 j)
    (dut_S (us_j 4 j (by decide))) (dut_R (us_j 4 j (by decide))) rfl rfl (oz_set c j) (oz_set c j) (q := hL) (Tv m c) (Tv m (nz c))
    (by rw [← rc8_set]; exact passed m (rc8 c j) (fun _ => rfl) c (nz c) (agree_z m c j)) (Entails.refl _)
    (by
      show _ ⊢ oP (nz c) (hb (qd (ny (nz (nz c)))) 1 (mn (nz c) j.castSucc)) fullShare (Tv m (nz c))
      rw [nz_nz, mn_nz]
      exact Entails.refl _)) $$ [HS L1 Hz T4 T4']
  · isplitl [HS]; · iexact HS
    isplitl [L1]; · iexact L1
    isplitl [Hz]; · iexact Hz
    isplitl [T4]; · iexact T4
    iexact T4'
  iintro ⟨HS, C4⟩
  unfold WP
  rw [wp_ret]; imodintro
  isplitl [HS]; · iexact HS
  isplitl [P1 P2 P1' P2' D1 D2 U1 L2]
  · isplitl [P1 P2 P1' P2']
    · isplitl [P1]; · iexact P1
      isplitl [P2]; · iexact P2
      isplitl [P1'] <;> iassumption
    isplitl [D1 D2]; · isplitl [D1] <;> iassumption
    isplitl [U1] <;> iassumption
  isplitl [O1' O2']; · isplitl [O1'] <;> iassumption
  isplitl [C3] <;> iassumption

/-! ## The end -/

def wA (c : Dev nD) (j : Fin 7) : sProp 𝕄 :=
  iprop((ps c (cS 3 j.castSucc) 0 ∗ ps c (cR 3 j.castSucc) 0 ∗ ps c (cS 4 j.castSucc) 0 ∗ ps c (cR 4 j.castSucc) 0)
    ∗ cr c (cR 3 j.castSucc) ∗ cr c (cR 4 j.castSucc))
def wB (c : Dev nD) (j : Fin 7) : sProp 𝕄 :=
  iprop((ps c (cS 3 j.castSucc) 1 ∗ ps c (cR 3 j.castSucc) 1 ∗ ps c (cS 4 j.castSucc) 1 ∗ ps c (cR 4 j.castSucc) 1)
    ∗ oP c (hb (qd (nz c)) 0 (mj c j)) hL (Tv m c) ∗ oP c (hb (qd (ny c)) 1 (mj c j)) hL (Tv m c))

theorem w_turn (c : Dev nD) (n : ℕ) (hn : 39 ≤ n) (j : Fin 7) :
    iprop(St m κ c n ∗ (cr c (cS 3 j.castSucc) ∗ cr c (cS 4 j.castSucc)) ∗ wA (F := F) c j)
      ⊢ WP c (wH2 c j) fun _ => iprop(St m κ c n ∗ wB m c j ∗ oP c (qb (qd (ny (nz c))) (mj c j)) fullShare (Tv m c)) := by
  unfold wH2 wA wB
  simp only [Prog.lift, Prog.bind_op, Prog.bind_ret]
  iintro ⟨HS, ⟨C3, C4⟩, ⟨P3, P3', P4, P4'⟩, C3', C4'⟩
  iapply (st_dma m κ (cS 3 j.castSucc) n (oy c j) (oy c j) rfl rfl (dut_S (us_j 3 j (by decide))) (fun i _ => lv_0 i)) $$ [HS C3 P3]
  · isplitl [HS]; · iexact HS
    isplitl [C3] <;> iassumption
  iintro ⟨HS, P3, O3⟩
  iapply (st_dma m κ (cR 3 j.castSucc) n (oy c j) (oy c j) rfl rfl (dut_R (us_j 3 j (by decide))) (fun i hi => lv_39 i (hn.trans hi))) $$ [HS C3' P3']
  · isplitl [HS]; · iexact HS
    isplitl [C3'] <;> iassumption
  iintro ⟨HS, P3', O3'⟩
  iapply (st_dma m κ (cS 4 j.castSucc) n (oz c j) (oz c j) rfl rfl (dut_S (us_j 4 j (by decide))) (fun i _ => lv_0 i)) $$ [HS C4 P4]
  · isplitl [HS]; · iexact HS
    isplitl [C4] <;> iassumption
  iintro ⟨HS, P4, O4⟩
  iapply (st_dma m κ (cR 4 j.castSucc) n (oz c j) (oz c j) rfl rfl (dut_R (us_j 4 j (by decide))) (fun i hi => lv_39 i (hn.trans hi))) $$ [HS C4' P4']
  · isplitl [HS]; · iexact HS
    isplitl [C4'] <;> iassumption
  iintro ⟨HS, P4', O4'⟩
  ihave O3 := (Entails.of_eq (show payP m c 0 (cS 3 j.castSucc) = oP c (hb (qd (nz c)) 0 (mj c j)) hL (Tv m c) from rfl)) $$ O3
  ihave O4 := (Entails.of_eq (show payP m c 0 (cS 4 j.castSucc) = oP c (hb (qd (ny c)) 1 (mj c j)) hL (Tv m c) from rfl)) $$ O4
  ihave O3' := (Entails.of_eq (show payP m c 0 (cR 3 j.castSucc) = oP c (hb (qd (ny (nz c))) 0 (mj c j)) fullShare (Tv m c) from rfl)) $$ O3'
  ihave O4' := (Entails.of_eq (show payP m c 0 (cR 4 j.castSucc) = oP c (hb (qd (ny (nz c))) 1 (mj c j)) fullShare (Tv m c) from rfl)) $$ O4'
  unfold WP
  rw [wp_ret]; imodintro
  isplitl [HS]; · iexact HS
  isplitr [O3' O4']
  · isplitl [P3 P3' P4 P4']
    · isplitl [P3]; · iexact P3
      isplitl [P3']; · iexact P3'
      isplitl [P4] <;> iassumption
    isplitl [O3] <;> iassumption
  iapply (Entails.of_eq (two_halves c _ _ _ _).symm)
  isplitl [O3'] <;> iassumption

/-- A block leaves across x. -/
theorem l_send (c : Dev nD) (n : ℕ) (p : Fin 8) (h5 : 5 ≤ p.val) (hn : n < 42) (hp : pay n = (0, cR p 0)) (r : Rect S4096x1024) (hs : ∀ a, r.stride a = 1)
    (hw : r.WholeWords (EltTy.packing .bf16)) (hN : (oM.slice r hs).view.dmaCredit = amt (cR p 0)) {S : Finset S4096x1024.Idx} (hr : r.set = S)
    (hag : ∀ i ∈ S, Tv m (nx c) i = Tv m c i) (hpay : oP c S hR (Tv m c) ⊢ sndP m c 0 p)
    (hpay' : oP (nx c) S fullShare (Tv m (nx c)) ⊢ rcvP m (nx c) 0 p) :
    iprop(St m κ c n ∗ oP c S hR (Tv m c) ∗ (∃ f, oP (F := F) (nx c) S fullShare f) ∗ tk c (cS p 0) 0 ∗ tk (nx c) (cR p 0) 0)
      ⊢ WP c (pL c r hs hw p) fun _ => iprop(St m κ c (n + 1) ∗ cr c (cS p 0)) := by
  subst hr
  unfold pL
  simp only [Prog.lift]
  iintro ⟨HS, Ho, Hd, T, T'⟩
  iapply (st_send m κ (src := oM.slice r hs) (dst := oM.slice r hs) (cS p 0) (cR p 0) n 0 hn hp
    (dut_S (us_l p h5)) (dut_R (us_l p h5)) hN rfl (View.set_slice_whole _ _) (View.set_slice_whole _ _) (q := hR) (Tv m c) (Tv m (nx c))
    (passed m r hs c (nx c) hag) hpay hpay') $$ [HS Ho Hd T T']
  · isplitl [HS]; · iexact HS
    isplitl [Ho]; · iexact Ho
    isplitl [Hd]; · iexact Hd
    isplitl [T]; · iexact T
    iexact T'
  iintro H
  unfold WP
  rw [wp_ret]; imodintro
  iexact H

theorem l_wait (c : Dev nD) (p : Fin 8) (h5 : 5 ≤ p.val) (r : Rect S4096x1024) (hs : ∀ a, r.stride a = 1)
    (hw : r.WholeWords (EltTy.packing .bf16)) (hN : (oM.slice r hs).view.dmaCredit = amt (cR p 0)) :
    iprop(St m κ c 42 ∗ cr c (cS p 0) ∗ cr c (cR p 0) ∗ ps c (cS p 0) 0 ∗ ps c (cR p 0) 0)
      ⊢ WP c (wL r hs hw p) fun _ => iprop(St m κ c 42 ∗ (ps c (cS p 0) 1 ∗ ps c (cR p 0) 1) ∗ sndP m c 0 p ∗ rcvP m c 0 p) := by
  unfold wL
  simp only [Prog.lift, Prog.bind_op, Prog.bind_ret]
  iintro ⟨HS, C, C', P, P'⟩
  iapply (st_dma m κ (cS p 0) 42 (oM.slice r hs) (oM.slice r hs) rfl hN (dut_S (us_l p h5)) (fun i _ => lv_0 i)) $$ [HS C P]
  · isplitl [HS]; · iexact HS
    isplitl [C] <;> iassumption
  iintro ⟨HS, P, O⟩
  iapply (st_dma m κ (cR p 0) 42 (oM.slice r hs) (oM.slice r hs) rfl hN (dut_R (us_l p h5)) (fun i hi => absurd i.isLt (by omega))) $$ [HS C' P']
  · isplitl [HS]; · iexact HS
    isplitl [C'] <;> iassumption
  iintro ⟨HS, P', O'⟩
  ihave O := (Entails.of_eq (show payP m c 0 (cS p 0) = sndP m c 0 p from rfl)) $$ O
  ihave O' := (Entails.of_eq (show payP m c 0 (cR p 0) = rcvP m c 0 p from rfl)) $$ O'
  unfold WP
  rw [wp_ret]; imodintro
  isplitl [HS]; · iexact HS
  isplitl [P P']; · isplitl [P] <;> iassumption
  isplitl [O] <;> iassumption

theorem o_turn (c : Dev nD) (n : ℕ) (t : Fin 8) :
    iprop(St m κ c n ∗ cr c (cO t) ∗ ps c (cO t) 0)
      ⊢ WP c (wOut c t) fun _ => iprop(St m κ c n ∗ ps c (cO t) 1 ∗ outP m c t) := by
  unfold wOut
  simp only [Prog.lift]
  iintro H
  iapply (st_dma m κ (cO t) n (dq c t) (oq c t) rfl rfl rfl (fun i _ => lv_0 i)) $$ H
  iintro ⟨HS, P, O⟩
  ihave O := (Entails.of_eq (show payP m c 0 (cO t) = outP m c t from rfl)) $$ O
  unfold WP
  rw [wp_ret]; imodintro
  isplitl [HS]; · iexact HS
  isplitl [P] <;> iassumption

end Cert.KernelIdeal.Own

end
-- ==== Proof.Ideal.Body.lean ====
/-
The body of the kernel, from what a device starts with to what it ends with.
-/
module

public import proofs.«01_k».proof.Proof.Ideal.Turns

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (κ : Dev nD × Cel → ℕ)

/-! ## The loops -/

theorem assoc (P R T : sProp 𝕄) : iprop((P ∗ R) ∗ T) = iprop(P ∗ R ∗ T) := by
  have h1 : iprop((P ∗ R) ∗ T) ⊢ iprop(P ∗ R ∗ T) := by
    iintro ⟨⟨H1, H2⟩, H3⟩
    isplitl [H1]; · iexact H1
    isplitl [H2] <;> iassumption
  have h2 : iprop(P ∗ R ∗ T) ⊢ iprop((P ∗ R) ∗ T) := by
    iintro ⟨H1, H2, H3⟩
    isplitr [H3]; · isplitl [H1] <;> iassumption
    iexact H3
  exact h1.antisymm h2

theorem last8 (Φ : Fin 8 → sProp 𝕄) :
    bigSep Finset.univ Φ = iprop((bigSep Finset.univ fun j : Fin 7 => Φ j.castSucc) ∗ Φ 7) := by
  rw [list8, list7]
  simp only [assoc]
  rfl

theorem in_loop (c : Dev nD) :
    iprop(St m κ c 0 ∗ bigSep Finset.univ fun t => inA m c t)
      ⊢ WP c (seq8 (pIn c)) fun _ => iprop(St m κ c 0 ∗ bigSep Finset.univ fun t => cr (F := F) c (cI t)) :=
  wp_seq8 (fun _ => St m κ c 0) _ _ _ fun t => in_turn m κ c 0 t

/-- The chunk sent at turn `t` is the one kept at the turn opposite. -/
theorem turned (c : Dev nD) (Φ : Fin 8 → sProp 𝕄) :
    (bigSep Finset.univ fun t => Φ (th c t)) = bigSep Finset.univ fun t => Φ (mn c t) := by
  rw [bigSep_univ_equiv Fin.revPerm]
  exact bigSep_congr fun t _ => by rw [Fin.revPerm_apply, th_rev]

theorem x_loop (c : Dev nD) :
    iprop(St m κ c 3 ∗ (bigSep Finset.univ fun t => cr (F := F) c (cI t))
        ∗ (bigSep Finset.univ fun t : Fin 8 => iprop(∃ f, rP (F := F) (nx c) (ck (th c t)) fullShare f))
        ∗ bigSep Finset.univ fun t => xA (F := F) c t)
      ⊢ WP c (seq8 (pX c)) fun _ => iprop(St m κ c 11 ∗ (bigSep Finset.univ fun t => xK m c t)
        ∗ (bigSep Finset.univ fun t => sP c (ck (mn c t)) hR (Sv m c)) ∗ bigSep Finset.univ fun t => cr (F := F) c (cS 0 t)) := by
  rw [← turned c fun k => sP c (ck k) hR (Sv m c), ← bigSep_sep', ← bigSep_sep', ← bigSep_sep', ← bigSep_sep']
  exact wp_seq8 (fun k => St m κ c (3 + k)) _ _ _ fun t => x_turn m κ c t

theorem s_loop (c : Dev nD) :
    iprop(St m κ c 11 ∗ ((bigSep Finset.univ fun j : Fin 7 => cr (F := F) c (cS 0 j.castSucc))
          ∗ (bigSep Finset.univ fun j => sP c (ck (mj c j)) hR (Sv m c)) ∗ bigSep Finset.univ fun j : Fin 7 => sA (F := F) c j.castSucc)
        ∗ (bigSep Finset.univ fun j : Fin 7 => iprop(∃ f, oP (F := F) (ny c) (qb (qd c) (mj c j)) fullShare f))
        ∗ (bigSep Finset.univ fun j : Fin 7 => iprop(∃ f, oP (F := F) (nz c) (qb (qd c) (mj c j)) fullShare f))
        ∗ bigSep Finset.univ fun j => hA (F := F) c j)
      ⊢ WP c (seq7 (pS c)) fun _ => iprop(St m κ c 25 ∗ (bigSep Finset.univ fun j : Fin 7 => sB m c j.castSucc)
        ∗ bigSep Finset.univ fun j : Fin 7 => iprop(cr (F := F) c (cS 1 j.castSucc) ∗ cr (F := F) c (cS 2 j.castSucc))) := by
  simp only [← bigSep_sep']
  exact wp_seq7 (fun k => St m κ c (11 + 2 * k)) _ _ _ fun j => s_turn m κ c j

theorem f_loop (c : Dev nD) :
    iprop(St m κ c 25 ∗ (bigSep Finset.univ fun j : Fin 7 => iprop(cr (F := F) c (cS 1 j.castSucc) ∗ cr (F := F) c (cS 2 j.castSucc)))
        ∗ (bigSep Finset.univ fun j : Fin 7 => iprop(∃ f, oP (F := F) (ny c) (hb (qd (nz c)) 0 (mj c j)) fullShare f))
        ∗ (bigSep Finset.univ fun j : Fin 7 => iprop(∃ f, oP (F := F) (nz c) (hb (qd (ny c)) 1 (mj c j)) fullShare f))
        ∗ bigSep Finset.univ fun j => fA (F := F) c j)
      ⊢ WP c (seq7 (pF c)) fun _ => iprop(St m κ c 39 ∗ (bigSep Finset.univ fun j => fB m c j)
        ∗ ((bigSep Finset.univ fun j => oP c (qb (qd (ny c)) (mj c j)) hR (Tv m c))
          ∗ bigSep Finset.univ fun j => oP c (qb (qd (nz c)) (mj c j)) hR (Tv m c))
        ∗ bigSep Finset.univ fun j : Fin 7 => iprop(cr (F := F) c (cS 3 j.castSucc) ∗ cr (F := F) c (cS 4 j.castSucc))) := by
  simp only [← bigSep_sep']
  exact wp_seq7 (fun k => St m κ c (25 + 2 * k)) _ _ _ fun j => f_turn m κ c j

theorem o_loop (c : Dev nD) :
    iprop(St m κ c 42 ∗ (bigSep Finset.univ fun t => cr (F := F) c (cO t)) ∗ bigSep Finset.univ fun t => ps (F := F) c (cO t) 0)
      ⊢ WP c (seq8 (wOut c)) fun _ => iprop(St m κ c 42 ∗ bigSep Finset.univ fun t => iprop(ps c (cO t) 1 ∗ outP m c t)) := by
  simp only [← bigSep_sep']
  exact wp_seq8 (fun _ => St m κ c 42) _ _ _ fun t => o_turn m κ c 42 t

/-! ## The end -/

theorem credit_l (p : Fin 8) (h : 5 ≤ p.val) : amt (cR p 0) = N1 := by
  show (if p = 3 ∨ p = 4 then NH else N1) = N1
  exact if_neg (by rintro (rfl | rfl) <;> exact absurd h (by decide))
theorem credit_9 (c : Dev nD) : (oM.slice (rc9 c) (fun _ => rfl)).view.dmaCredit = N1 := rfl
theorem credit_10 (c : Dev nD) : (oM.slice (rc10 c) (fun _ => rfl)).view.dmaCredit = N1 := rfl
theorem credit_11 (c : Dev nD) : (oM.slice (rc11 c) (fun _ => rfl)).view.dmaCredit = N1 := rfl
theorem pay_5 : pay 39 = (0, cR 5 0) := by decide
theorem pay_6 : pay 40 = (0, cR 6 0) := by decide
theorem pay_7 : pay 41 = (0, cR 7 0) := by decide
theorem mn_nx_7 (c : Dev nD) : mn (nx c) 7 = mn c 0 := mn_nx c 7

theorem send_5 (c : Dev nD) :
    iprop(St m κ c 39 ∗ oP c (qb (qd (ny c)) (mn c 0)) hR (Tv m c) ∗ (∃ f, oP (F := F) (nx c) (qb (qd (ny c)) (mn c 0)) fullShare f)
        ∗ tk c (cS 5 0) 0 ∗ tk (nx c) (cR 5 0) 0)
      ⊢ WP c (pL c (rc9 c) (fun _ => rfl) (k0_off9_wordsbf16 c) 5) fun _ => iprop(St m κ c 40 ∗ cr c (cS 5 0)) :=
  l_send m κ c 39 5 (by decide) (by decide) pay_5 (rc9 c) (fun _ => rfl) (k0_off9_wordsbf16 c)
    ((credit_9 c).trans (credit_l 5 (by decide)).symm) (rc9_set c) (agree_x m c _ (qd_ny_ne c)) (Entails.refl _)
    (by
      show _ ⊢ oP (nx c) (qb (qd (ny (nx c))) (mn (nx c) 7)) fullShare (Tv m (nx c))
      rw [← nx_ny, qd_nx, mn_nx_7])
theorem send_6 (c : Dev nD) :
    iprop(St m κ c 40 ∗ oP c (qb (qd (nz c)) (mn c 0)) hR (Tv m c) ∗ (∃ f, oP (F := F) (nx c) (qb (qd (nz c)) (mn c 0)) fullShare f)
        ∗ tk c (cS 6 0) 0 ∗ tk (nx c) (cR 6 0) 0)
      ⊢ WP c (pL c (rc10 c) (fun _ => rfl) (k0_off10_wordsbf16 c) 6) fun _ => iprop(St m κ c 41 ∗ cr c (cS 6 0)) :=
  l_send m κ c 40 6 (by decide) (by decide) pay_6 (rc10 c) (fun _ => rfl) (k0_off10_wordsbf16 c)
    ((credit_10 c).trans (credit_l 6 (by decide)).symm) (rc10_set c) (agree_x m c _ (qd_nz_ne c)) (Entails.refl _)
    (by
      show _ ⊢ oP (nx c) (qb (qd (nz (nx c))) (mn (nx c) 7)) fullShare (Tv m (nx c))
      rw [← nx_nz, qd_nx, mn_nx_7])
theorem send_7 (c : Dev nD) :
    iprop(St m κ c 41 ∗ oP c (qb (qd (ny (nz c))) (mn c 0)) hR (Tv m c) ∗ (∃ f, oP (F := F) (nx c) (qb (qd (ny (nz c))) (mn c 0)) fullShare f)
        ∗ tk c (cS 7 0) 0 ∗ tk (nx c) (cR 7 0) 0)
      ⊢ WP c (pL c (rc11 c) (fun _ => rfl) (k0_off11_wordsbf16 c) 7) fun _ => iprop(St m κ c 42 ∗ cr c (cS 7 0)) :=
  l_send m κ c 41 7 (by decide) (by decide) pay_7 (rc11 c) (fun _ => rfl) (k0_off11_wordsbf16 c)
    ((credit_11 c).trans (credit_l 7 (by decide)).symm) (rc11_set c) (agree_x m c _ (qd_nyz_ne c)) (Entails.refl _)
    (by
      show _ ⊢ oP (nx c) (qb (qd (ny (nz (nx c)))) (mn (nx c) 7)) fullShare (Tv m (nx c))
      rw [← nx_nz, ← nx_ny, qd_nx, mn_nx_7])

/-- The tokens for the transfer of phase `p` at the end, -/
def lT (c : Dev nD) (p : Fin 8) : sProp 𝕄 := iprop(tk c (cS p 0) 0 ∗ tk (nx c) (cR p 0) 0)
/-- what its waits take, -/
def lA (c : Dev nD) (p : Fin 8) : sProp 𝕄 := iprop(cr c (cR p 0) ∗ ps c (cS p 0) 0 ∗ ps c (cR p 0) 0)
/-- and leave. -/
def lB (c : Dev nD) (p : Fin 8) : sProp 𝕄 := iprop(ps (F := F) c (cS p 0) 1 ∗ ps c (cR p 0) 1)

/-- What the neighbour across x lets the device write at the end. -/
def xO (c : Dev nD) : sProp 𝕄 :=
  iprop((∃ f, oP (F := F) (nx c) (qb (qd (ny c)) (mn c 0)) fullShare f)
    ∗ (∃ f, oP (F := F) (nx c) (qb (qd (nz c)) (mn c 0)) fullShare f)
    ∗ (∃ f, oP (F := F) (nx c) (qb (qd (ny (nz c))) (mn c 0)) fullShare f))

set_option maxHeartbeats 1000000 in
theorem end_turn (c : Dev nD) :
    iprop(St m κ c 39 ∗ (bigSep Finset.univ fun j => oP c (qb (qd (ny c)) (mj c j)) hR (Tv m c))
        ∗ (bigSep Finset.univ fun j => oP c (qb (qd (nz c)) (mj c j)) hR (Tv m c))
        ∗ (bigSep Finset.univ fun j : Fin 7 => iprop(cr (F := F) c (cS 3 j.castSucc) ∗ cr (F := F) c (cS 4 j.castSucc)))
        ∗ (bigSep Finset.univ fun j => wA (F := F) c j) ∗ xO (F := F) c ∗ (lT (F := F) c 5 ∗ lT (F := F) c 6 ∗ lT (F := F) c 7)
        ∗ (lA (F := F) c 5 ∗ lA (F := F) c 6 ∗ lA (F := F) c 7)
        ∗ (bigSep Finset.univ fun t => cr (F := F) c (cO t)) ∗ bigSep Finset.univ fun t => ps (F := F) c (cO t) 0)
      ⊢ WP c (pEnd c) fun _ => iprop(St m κ c 42 ∗ (bigSep Finset.univ fun j => wB m c j)
        ∗ (bigSep Finset.univ fun j => oP c (qb (qd (ny c)) (mj c j)) hR (Tv m c))
        ∗ (bigSep Finset.univ fun j => oP c (qb (qd (nz c)) (mj c j)) hR (Tv m c))
        ∗ (bigSep Finset.univ fun j => oP c (qb (qd (ny (nz c))) (mj c j)) fullShare (Tv m c))
        ∗ (lB (F := F) c 5 ∗ lB (F := F) c 6 ∗ lB (F := F) c 7) ∗ (rcvP m c 0 5 ∗ rcvP m c 0 6 ∗ rcvP m c 0 7)
        ∗ bigSep Finset.univ fun t => iprop(ps c (cO t) 1 ∗ outP m c t)) := by
  simp only [list7]
  unfold pEnd lT lA lB xO
  iintro ⟨HS, ⟨Y0, Y1, Y2, Y3, Y4, Y5, Y6⟩, ⟨Z0, Z1, Z2, Z3, Z4, Z5, Z6⟩, ⟨C0, C1, C2, C3, C4, C5, C6⟩, ⟨W0, W1, W2, W3, W4, W5, W6⟩,
    ⟨X5, X6, X7⟩, ⟨⟨T5, T5'⟩, ⟨T6, T6'⟩, ⟨T7, T7'⟩⟩, ⟨V5, V6, V7⟩, CO, PO⟩
  iapply (wp_then (send_5 m κ c)) $$ [HS Y0 X5 T5 T5']
  · isplitl [HS]; · iexact HS
    isplitl [Y0]; · iexact Y0
    isplitl [X5]; · iexact X5
    isplitl [T5] <;> iassumption
  iintro ⟨HS, E5⟩
  iapply (wp_then (send_6 m κ c)) $$ [HS Z0 X6 T6 T6']
  · isplitl [HS]; · iexact HS
    isplitl [Z0]; · iexact Z0
    isplitl [X6]; · iexact X6
    isplitl [T6] <;> iassumption
  iintro ⟨HS, E6⟩
  iapply (wp_then (w_turn m κ c 41 (by decide) 0)) $$ [HS C0 W0]
  · isplitl [HS]; · iexact HS
    isplitl [C0]; · iexact C0
    iexact W0
  iintro ⟨HS, W0, D0⟩
  ihave D0 := (Entails.of_eq (halves fullShare)) $$ D0
  icases D0 with ⟨D0', D0⟩
  iapply (wp_then (send_7 m κ c)) $$ [HS D0 X7 T7 T7']
  · isplitl [HS]; · iexact HS
    isplitl [D0]; · iexact D0
    isplitl [X7]; · iexact X7
    isplitl [T7] <;> iassumption
  iintro ⟨HS, E7⟩
  iapply (wp_then (w_turn m κ c 42 (by decide) 1)) $$ [HS C1 W1]
  · isplitl [HS]; · iexact HS
    isplitl [C1]; · iexact C1
    iexact W1
  iintro ⟨HS, W1, D1⟩
  iapply (wp_then (w_turn m κ c 42 (by decide) 2)) $$ [HS C2 W2]
  · isplitl [HS]; · iexact HS
    isplitl [C2]; · iexact C2
    iexact W2
  iintro ⟨HS, W2, D2⟩
  iapply (wp_then (w_turn m κ c 42 (by decide) 3)) $$ [HS C3 W3]
  · isplitl [HS]; · iexact HS
    isplitl [C3]; · iexact C3
    iexact W3
  iintro ⟨HS, W3, D3⟩
  iapply (wp_then (w_turn m κ c 42 (by decide) 4)) $$ [HS C4 W4]
  · isplitl [HS]; · iexact HS
    isplitl [C4]; · iexact C4
    iexact W4
  iintro ⟨HS, W4, D4⟩
  iapply (wp_then (w_turn m κ c 42 (by decide) 5)) $$ [HS C5 W5]
  · isplitl [HS]; · iexact HS
    isplitl [C5]; · iexact C5
    iexact W5
  iintro ⟨HS, W5, D5⟩
  iapply (wp_then (w_turn m κ c 42 (by decide) 6)) $$ [HS C6 W6]
  · isplitl [HS]; · iexact HS
    isplitl [C6]; · iexact C6
    iexact W6
  iintro ⟨HS, W6, D6⟩
  iapply (wp_then (l_wait m κ c 5 (by decide) (rc9 c) (fun _ => rfl) (k0_off9_wordsbf16 c) ((credit_9 c).trans (credit_l 5 (by decide)).symm))) $$ [HS E5 V5]
  · isplitl [HS]; · iexact HS
    isplitl [E5]; · iexact E5
    iexact V5
  iintro ⟨HS, V5, Y0, R5⟩
  iapply (wp_then (l_wait m κ c 6 (by decide) (rc10 c) (fun _ => rfl) (k0_off10_wordsbf16 c) ((credit_10 c).trans (credit_l 6 (by decide)).symm))) $$ [HS E6 V6]
  · isplitl [HS]; · iexact HS
    isplitl [E6]; · iexact E6
    iexact V6
  iintro ⟨HS, V6, Z0, R6⟩
  iapply (wp_then (l_wait m κ c 7 (by decide) (rc11 c) (fun _ => rfl) (k0_off11_wordsbf16 c) ((credit_11 c).trans (credit_l 7 (by decide)).symm))) $$ [HS E7 V7]
  · isplitl [HS]; · iexact HS
    isplitl [E7]; · iexact E7
    iexact V7
  iintro ⟨HS, V7, D0, R7⟩
  iapply wp_wand_r
  isplitl [HS CO PO]
  · iapply (o_loop m κ c)
    isplitl [HS]; · iexact HS
    isplitl [CO] <;> iassumption
  iintro %u ⟨HS, HO⟩
  isplitl [HS]; · iexact HS
  isplitl [W0 W1 W2 W3 W4 W5 W6]
  · isplitl [W0]; · iexact W0
    isplitl [W1]; · iexact W1
    isplitl [W2]; · iexact W2
    isplitl [W3]; · iexact W3
    isplitl [W4]; · iexact W4
    isplitl [W5] <;> iassumption
  isplitl [Y0 Y1 Y2 Y3 Y4 Y5 Y6]
  · isplitl [Y0]
    · iapply (Entails.of_eq (show sndP m c 0 5 = oP c (qb (qd (ny c)) (mj c 0)) hR (Tv m c) from rfl)); iexact Y0
    isplitl [Y1]; · iexact Y1
    isplitl [Y2]; · iexact Y2
    isplitl [Y3]; · iexact Y3
    isplitl [Y4]; · iexact Y4
    isplitl [Y5] <;> iassumption
  isplitl [Z0 Z1 Z2 Z3 Z4 Z5 Z6]
  · isplitl [Z0]
    · iapply (Entails.of_eq (show sndP m c 0 6 = oP c (qb (qd (nz c)) (mj c 0)) hR (Tv m c) from rfl)); iexact Z0
    isplitl [Z1]; · iexact Z1
    isplitl [Z2]; · iexact Z2
    isplitl [Z3]; · iexact Z3
    isplitl [Z4]; · iexact Z4
    isplitl [Z5] <;> iassumption
  isplitl [D0 D0' D1 D2 D3 D4 D5 D6]
  · isplitl [D0 D0']
    · iapply (Entails.of_eq (halves fullShare).symm)
      isplitl [D0']; · iexact D0'
      iapply (Entails.of_eq (show sndP m c 0 7 = oP c (qb (qd (ny (nz c))) (mj c 0)) hR (Tv m c) from rfl)); iexact D0
    isplitl [D1]; · iexact D1
    isplitl [D2]; · iexact D2
    isplitl [D3]; · iexact D3
    isplitl [D4]; · iexact D4
    isplitl [D5] <;> iassumption
  isplitl [V5 V6 V7]
  · isplitl [V5]; · iexact V5
    isplitl [V6] <;> iassumption
  isplitl [R5 R6 R7]
  · isplitl [R5]; · iexact R5
    isplitl [R6] <;> iassumption
  iexact HO

/-! ## The whole -/

/-- What the body starts from: the tokens, the credits and its places in the cells, with the memory the device uses itself and the
    memory it gives to its neighbours. -/
def Start (c : Dev nD) : sProp 𝕄 :=
  iprop((bigSep Finset.univ fun t => inA m c t) ∗ bA (F := F) c ∗ (bigSep Finset.univ fun t => xA (F := F) c t)
    ∗ (bigSep Finset.univ fun t => sA (F := F) c t) ∗ (bigSep Finset.univ fun j => hA (F := F) c j) ∗ (bigSep Finset.univ fun j => fA (F := F) c j)
    ∗ (bigSep Finset.univ fun j => wA (F := F) c j) ∗ (lT (F := F) c 5 ∗ lT (F := F) c 6 ∗ lT (F := F) c 7)
    ∗ (lA (F := F) c 5 ∗ lA (F := F) c 6 ∗ lA (F := F) c 7) ∗ bigSep Finset.univ fun t => ps (F := F) c (cO t) 0)

/-- What it ends with. -/
def Fini (c : Dev nD) : sProp 𝕄 :=
  iprop(ps c cB 1 ∗ (bigSep Finset.univ fun t => xK m c t) ∗ (bigSep Finset.univ fun t => sK m c t) ∗ dP c (ck (mn c 7)) hR (Dv m c)
    ∗ (bigSep Finset.univ fun j => fB m c j) ∗ (bigSep Finset.univ fun j => wB m c j)
    ∗ (bigSep Finset.univ fun j => oP c (qb (qd (ny c)) (mj c j)) hR (Tv m c))
    ∗ (bigSep Finset.univ fun j => oP c (qb (qd (nz c)) (mj c j)) hR (Tv m c))
    ∗ (bigSep Finset.univ fun j => oP c (qb (qd (ny (nz c))) (mj c j)) fullShare (Tv m c))
    ∗ (lB (F := F) c 5 ∗ lB (F := F) c 6 ∗ lB (F := F) c 7) ∗ (rcvP m c 0 5 ∗ rcvP m c 0 6 ∗ rcvP m c 0 7)
    ∗ bigSep Finset.univ fun t => iprop(ps c (cO t) 1 ∗ outP m c t))

set_option maxHeartbeats 1000000 in
theorem text_wp (c : Dev nD) :
    iprop(St m κ c 0 ∗ Start m c) ⊢ WP c text fun _ => iprop(St m κ c 42 ∗ Fini m c) := by
  unfold text Start Fini
  simp only [Prog.lift, Prog.bind_op, Prog.bind_ret]
  unfold WP
  rw [wp_deviceId]
  iintro ⟨HS, HI, HB, HX, HA, HH, HF, HW, HT, HL, HP⟩
  iapply (wp_then (in_loop m κ c)) $$ [HS HI]; · isplitl [HS] <;> iassumption
  iintro ⟨HS, CI⟩
  iapply (wp_then (bar_turn m κ c)) $$ [HS HB]; · isplitl [HS] <;> iassumption
  iintro ⟨HS, PB, BX, BY, BZ⟩
  unfold barX barY barZ
  icases BX with ⟨BR, BX⟩
  icases BY with ⟨BY, BY'⟩
  icases BZ with ⟨BZ, BZ'⟩
  iapply (wp_then (x_loop m κ c)) $$ [HS CI BR HX]
  · isplitl [HS]; · iexact HS
    isplitl [CI]; · iexact CI
    isplitl [BR] <;> iassumption
  iintro ⟨HS, XK, SK, CS⟩
  ihave SK := (Entails.of_eq (last8 fun t => sP c (ck (mn c t)) hR (Sv m c))) $$ SK
  ihave CS := (Entails.of_eq (last8 fun t => cr (F := F) c (cS 0 t))) $$ CS
  ihave HA := (Entails.of_eq (last8 fun t => sA (F := F) c t)) $$ HA
  icases SK with ⟨SK, SK7⟩
  icases CS with ⟨CS, CS7⟩
  icases HA with ⟨HA, HA7⟩
  iapply (wp_then (s_loop m κ c)) $$ [HS CS SK HA BY BZ HH]
  · isplitl [HS]; · iexact HS
    isplitl [CS SK HA]
    · isplitl [CS]; · iexact CS
      isplitl [SK] <;> iassumption
    isplitl [BY]; · iexact BY
    isplitl [BZ] <;> iassumption
  iintro ⟨HS, SB, CH⟩
  iapply (wp_then (sum_turn m κ c 25 (by decide) 7)) $$ [HS CS7 SK7 HA7]
  · isplitl [HS]; · iexact HS
    isplitl [CS7]; · iexact CS7
    isplitl [SK7] <;> iassumption
  iintro ⟨HS, HD, SB7⟩
  ihave SB := (Entails.of_eq (last8 fun t => sB m c t).symm) $$ [SB SB7]
  · isplitl [SB] <;> iassumption
  ihave SB := (Entails.of_eq (show (bigSep Finset.univ fun t => sB m c t) = _ from
    bigSep_sep' Finset.univ (fun t => sK m c t) (fun t => cr (F := F) c (cO t)))) $$ SB
  icases SB with ⟨SK, CO⟩
  iapply (wp_then (f_loop m κ c)) $$ [HS CH BY' BZ' HF]
  · isplitl [HS]; · iexact HS
    isplitl [CH]; · iexact CH
    isplitl [BY']; · iexact BY'
    isplitl [BZ'] <;> iassumption
  iintro ⟨HS, FB, ⟨OY, OZ⟩, CF⟩
  iapply wp_wand_r
  isplitl [HS OY OZ CF HW BX HT HL CO HP]
  · iapply (end_turn m κ c)
    isplitl [HS]; · iexact HS
    isplitl [OY]; · iexact OY
    isplitl [OZ]; · iexact OZ
    isplitl [CF]; · iexact CF
    isplitl [HW]; · iexact HW
    isplitl [BX]; · unfold xO; iexact BX
    isplitl [HT]; · iexact HT
    isplitl [HL]; · iexact HL
    isplitl [CO] <;> iassumption
  iintro %u ⟨HS, H⟩
  isplitl [HS]; · iexact HS
  isplitl [PB]; · iexact PB
  isplitl [XK]; · iexact XK
  isplitl [SK]; · iexact SK
  isplitl [HD]; · iexact HD
  isplitl [FB]; · iexact FB
  iexact H

end Cert.KernelIdeal.Own

end
-- ==== Proof.Ideal.Mem.lean ====
/-
The memory of a device: whole, and in the pieces the body works with.
-/
module

public import proofs.«01_k».proof.Proof.Ideal.Body
public import Idealize.ShloMosaic.Lib.Ring

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (κ : Dev nD × Cel → ℕ)

/-! ## Buffers, whole and in pieces -/

theorem ck_disj {g : Fin 8 → Fin 8} (hg : ∀ t t', g t = g t' → t = t') (t t' : Fin 8) (h : t ≠ t') : Disjoint (ck (g t)) (ck (g t')) := by
  rw [Finset.disjoint_left]
  intro i hi hi'
  exact h (hg t t' (Fin.ext ((mem_ck.mp hi).symm.trans (mem_ck.mp hi'))))
theorem ck_all {g : Fin 8 → Fin 8} (hg : ∀ t, g (g t) = t) (i : S1024x1024.Idx) : ∃ t, i ∈ ck (g t) := by
  have h := (lt_q i).2
  exact ⟨g ⟨(i 1).val / 128, by omega⟩, mem_ck.mpr (by rw [hg])⟩
theorem qb_disj {q q' : Fin 4} {k k' : Fin 8} (h : q ≠ q' ∨ k ≠ k') : Disjoint (qb q k) (qb q' k') := by
  rw [Finset.disjoint_left]
  intro i hi hi'
  rcases h with h | h
  · exact h (Fin.ext ((mem_qb.mp hi).1.symm.trans (mem_qb.mp hi').1))
  · exact h (Fin.ext ((mem_qb.mp hi).2.symm.trans (mem_qb.mp hi').2))

/-- A buffer is held in pieces that are disjoint and leave nothing out. -/
theorem pieces (ℓ : Loc nD τ sig) {B : Type} [Fintype B] [DecidableEq B] (I : B → Finset (Idx ℓ)) (hd : ∀ b b', b ≠ b' → Disjoint (I b) (I b'))
    (hc : ∀ i, ∃ b, i ∈ I b) (q : PosShare TreeShare) (f : Buf (Elt F) ℓ) :
    (ℓ ↦[Finset.univ]{q} f : sProp 𝕄) = bigSep Finset.univ fun b => ℓ ↦[I b]{q} f :=
  Ring.pointsTo_blocks I hd (Finset.eq_univ_of_forall fun i => let ⟨b, hb⟩ := hc i; Finset.mem_biUnion.mpr ⟨b, Finset.mem_univ _, hb⟩) f

theorem q_chunks (c : Dev nD) (q : PosShare TreeShare) (f : Vec F S1024x1024 .f32) :
    qP c Finset.univ q f = bigSep Finset.univ fun t => qP c (ck (th c t)) q f :=
  pieces ((c : Thread nD τ).loc cc0_scratch0) (fun t => ck (th c t)) (ck_disj (th_inj c)) (ck_all (th_th c)) q f
theorem s_chunks_th (c : Dev nD) (q : PosShare TreeShare) (f : Vec F S1024x1024 .bf16) :
    sP c Finset.univ q f = bigSep Finset.univ fun t => sP c (ck (th c t)) q f :=
  pieces ((c : Thread nD τ).loc cc0_scratch1) (fun t => ck (th c t)) (ck_disj (th_inj c)) (ck_all (th_th c)) q f
theorem s_chunks_mn (c : Dev nD) (q : PosShare TreeShare) (f : Vec F S1024x1024 .bf16) :
    sP c Finset.univ q f = bigSep Finset.univ fun t => sP c (ck (mn c t)) q f :=
  pieces ((c : Thread nD τ).loc cc0_scratch1) (fun t => ck (mn c t)) (ck_disj (mn_inj c)) (ck_all (mn_mn c)) q f
theorem r_chunks (c : Dev nD) (q : PosShare TreeShare) (f : Vec F S1024x1024 .bf16) :
    rP c Finset.univ q f = bigSep Finset.univ fun t => rP c (ck (mn c t)) q f :=
  pieces ((c : Thread nD τ).loc cc0_scratch2) (fun t => ck (mn c t)) (ck_disj (mn_inj c)) (ck_all (mn_mn c)) q f
theorem d_chunks (c : Dev nD) (q : PosShare TreeShare) (f : Vec F S1024x1024 .bf16) :
    dP c Finset.univ q f = bigSep Finset.univ fun t => dP c (ck (mn c t)) q f :=
  pieces ((c : Thread nD τ).loc cc0_scratch3) (fun t => ck (mn c t)) (ck_disj (mn_inj c)) (ck_all (mn_mn c)) q f

/-- The part of its argument the device does not read. -/
def xRest (c : Dev nD) : Finset S4096x1024.Idx := Finset.univ \ Finset.univ.biUnion fun t => qb (qd c) (th c t)
theorem x_chunks (c : Dev nD) (q : PosShare TreeShare) (f : Vec F S4096x1024 .f32) :
    xP c Finset.univ q f = iprop((bigSep Finset.univ fun t => xP c (qb (qd c) (th c t)) q f) ∗ xP c (xRest c) q f) := by
  have h : xP c Finset.univ q f ⊣⊢ _ := pointsTo_split_subset (Finset.subset_univ (Finset.univ.biUnion fun t => qb (qd c) (th c t)))
  rw [← pointsTo_biUnion Finset.univ _ fun t _ t' _ h => qb_disj (Or.inr fun e => h (th_inj c t t' e))]
  exact h.1.antisymm h.2

/-- The four quarters of the rows as the device sees them: its own, its y neighbour's, its z neighbour's, the diagonal one's. -/
def qe (c : Dev nD) : Fin 4 → Fin 4 := ![qd c, qd (ny c), qd (nz c), qd (ny (nz c))]
theorem qe_inj : ∀ (c : Dev nD) (e e' : Fin 4), qe c e = qe c e' → e = e' := by decide +kernel
theorem qe_onto : ∀ (c : Dev nD) (q : Fin 4), ∃ e, qe c e = q := by decide +kernel

theorem o_blocks (c : Dev nD) (q : PosShare TreeShare) (f : Vec F S4096x1024 .bf16) :
    oP c Finset.univ q f = iprop((bigSep Finset.univ fun t => oP c (qb (qd c) (mn c t)) q f)
      ∗ (bigSep Finset.univ fun t => oP c (qb (qd (ny c)) (mn c t)) q f)
      ∗ (bigSep Finset.univ fun t => oP c (qb (qd (nz c)) (mn c t)) q f)
      ∗ bigSep Finset.univ fun t => oP c (qb (qd (ny (nz c))) (mn c t)) q f) := by
  refine (pieces ((c : Thread nD τ).loc main_v1) (fun b : Fin 4 × Fin 8 => qb (qe c b.1) (mn c b.2)) (fun b b' h => qb_disj ?_) (fun i => ?_) q f).trans ?_
  · by_cases h1 : qe c b.1 = qe c b'.1
    · exact Or.inr fun h2 => h (Prod.ext (qe_inj c _ _ h1) (mn_inj c _ _ h2))
    · exact Or.inl h1
  · have h := lt_o i
    obtain ⟨e, he⟩ := qe_onto c ⟨(i 0).val / 1024, by omega⟩
    exact ⟨(e, mn c ⟨(i 1).val / 128, by omega⟩), mem_qb.mpr ⟨by rw [he], by rw [mn_mn]⟩⟩
  · rw [bigSep_univ_prod, bigSep_univ_eq_bigSepL [0, 1, 2, 3] (by decide) (by decide)]
    rfl

/-- Pieces at one content are pieces at some content. -/
theorem some_each {I : Type} [Fintype I] {α : Type} {Φ : I → α → sProp 𝕄} (f : α) :
    (bigSep Finset.univ fun i => Φ i f) ⊢ bigSep Finset.univ fun i => iprop(∃ f, Φ i f) :=
  bigSep_mono fun i _ => exists_intro (Φ := fun f => Φ i f) f

/-! ## What a device gives away at the start -/

theorem th_nx' (c : Dev nD) : (fun t => rP (F := F) (nx (nx c)) (ck (th (nx c) t)) fullShare) = fun t => rP (F := F) c (ck (mn c t)) fullShare := by
  funext t; rw [nx_nx, th_nx]
theorem mn_nx_0 (c : Dev nD) : mn (nx c) 0 = mn c 7 := mn_nx c 0

theorem give_x (c : Dev nD) (f g : Vec F S1024x1024 .bf16) (f' : Vec F S4096x1024 .bf16) :
    iprop((bigSep Finset.univ fun t => rP c (ck (mn c t)) fullShare f) ∗ oP c (qb (qd (ny c)) (mn c 7)) fullShare f'
        ∗ oP c (qb (qd (nz c)) (mn c 7)) fullShare f' ∗ oP c (qb (qd (ny (nz c))) (mn c 7)) fullShare f')
      ⊢ barX (F := F) (nx c) := by
  unfold barX
  rw [nx_nx, ← nx_ny, ← nx_nz, ← nx_ny, qd_nx, qd_nx, qd_nx, mn_nx_0]
  simp only [th_nx]
  iintro ⟨HR, HY, HZ, HD⟩
  isplitl [HR]; · iapply (some_each (Φ := fun t f => rP (F := F) c (ck (mn c t)) fullShare f) f); iexact HR
  isplitl [HY]; · iexists f'; iexact HY
  isplitl [HZ]; · iexists f'; iexact HZ
  iexists f'; iexact HD

theorem give_y (c : Dev nD) (f' : Vec F S4096x1024 .bf16) :
    iprop((bigSep Finset.univ fun j => oP c (qb (qd (ny c)) (mj c j)) fullShare f')
        ∗ bigSep Finset.univ fun j => oP c (hb (qd (ny (nz c))) 0 (mj c j)) fullShare f')
      ⊢ barY (F := F) (ny c) := by
  unfold barY
  rw [ny_ny, ← ny_nz]
  simp only [mj, mn_ny]
  iintro ⟨H, H'⟩
  isplitl [H]
  · iapply (some_each (Φ := fun (j : Fin 7) f => oP (F := F) c (qb (qd (ny c)) (mn c j.castSucc)) fullShare f) f'); iexact H
  iapply (some_each (Φ := fun (j : Fin 7) f => oP (F := F) c (hb (qd (ny (nz c))) 0 (mn c j.castSucc)) fullShare f) f'); iexact H'

theorem give_z (c : Dev nD) (f' : Vec F S4096x1024 .bf16) :
    iprop((bigSep Finset.univ fun j => oP c (qb (qd (nz c)) (mj c j)) fullShare f')
        ∗ bigSep Finset.univ fun j => oP c (hb (qd (ny (nz c))) 1 (mj c j)) fullShare f')
      ⊢ barZ (F := F) (nz c) := by
  unfold barZ
  rw [nz_nz]
  simp only [mj, mn_nz]
  iintro ⟨H, H'⟩
  isplitl [H]
  · iapply (some_each (Φ := fun (j : Fin 7) f => oP (F := F) c (qb (qd (nz c)) (mn c j.castSucc)) fullShare f) f'); iexact H
  iapply (some_each (Φ := fun (j : Fin 7) f => oP (F := F) c (hb (qd (ny (nz c))) 1 (mn c j.castSucc)) fullShare f) f'); iexact H'

/-- What a device keeps of its memory for itself. -/
def Keep (c : Dev nD) : sProp 𝕄 :=
  iprop((bigSep Finset.univ fun t => xP c (qb (qd c) (th c t)) fullShare (Xv m c))
    ∗ (bigSep Finset.univ fun t => iprop(∃ f, qP (F := F) c (ck (th c t)) fullShare f))
    ∗ (bigSep Finset.univ fun t => iprop(∃ f, sP (F := F) c (ck (th c t)) fullShare f))
    ∗ (bigSep Finset.univ fun t => iprop(∃ f, dP (F := F) c (ck (mn c t)) fullShare f))
    ∗ (bigSep Finset.univ fun t => iprop(∃ f, oP (F := F) c (qb (qd c) (mn c t)) fullShare f))
    ∗ xP c (xRest c) fullShare (Xv m c))

/-- All its memory at the start, -/
def Mem0 (c : Dev nD) : sProp 𝕄 :=
  iprop(xP c Finset.univ fullShare (Xv m c) ∗ (∃ f, oP (F := F) c Finset.univ fullShare f) ∗ (∃ f, qP (F := F) c Finset.univ fullShare f)
    ∗ (∃ f, sP (F := F) c Finset.univ fullShare f) ∗ (∃ f, rP (F := F) c Finset.univ fullShare f) ∗ ∃ f, dP (F := F) c Finset.univ fullShare f)
/-- and at the end. -/
def Mem1 (c : Dev nD) : sProp 𝕄 :=
  iprop(xP c Finset.univ fullShare (Xv m c) ∗ oP c Finset.univ fullShare (Tv m c) ∗ (∃ f, qP (F := F) c Finset.univ fullShare f)
    ∗ (∃ f, sP (F := F) c Finset.univ fullShare f) ∗ (∃ f, rP (F := F) c Finset.univ fullShare f) ∗ ∃ f, dP (F := F) c Finset.univ fullShare f)

theorem mem_start (c : Dev nD) :
    Mem0 m c ⊢ iprop(Keep m c ∗ barX (F := F) (nx c) ∗ barY (F := F) (ny c) ∗ barZ (F := F) (nz c)) := by
  unfold Mem0 Keep
  iintro ⟨HX, ⟨%fo, HO⟩, ⟨%fq, HQ⟩, ⟨%fs, HS⟩, ⟨%fr, HR⟩, ⟨%fd, HD⟩⟩
  ihave HX := (Entails.of_eq (x_chunks c fullShare (Xv m c))) $$ HX
  ihave HO := (Entails.of_eq (o_blocks c fullShare fo)) $$ HO
  ihave HQ := (Entails.of_eq (q_chunks c fullShare fq)) $$ HQ
  ihave HS := (Entails.of_eq (s_chunks_th c fullShare fs)) $$ HS
  ihave HR := (Entails.of_eq (r_chunks c fullShare fr)) $$ HR
  ihave HD := (Entails.of_eq (d_chunks c fullShare fd)) $$ HD
  icases HX with ⟨HX, HX'⟩
  icases HO with ⟨O, OY, OZ, OD⟩
  ihave OY := (Entails.of_eq (last8 fun t => oP c (qb (qd (ny c)) (mn c t)) fullShare fo)) $$ OY
  ihave OZ := (Entails.of_eq (last8 fun t => oP c (qb (qd (nz c)) (mn c t)) fullShare fo)) $$ OZ
  ihave OD := (Entails.of_eq (last8 fun t => oP c (qb (qd (ny (nz c))) (mn c t)) fullShare fo)) $$ OD
  icases OY with ⟨OY, OY7⟩
  icases OZ with ⟨OZ, OZ7⟩
  icases OD with ⟨OD, OD7⟩
  ihave OD := (Entails.of_eq ((bigSep_congr fun (j : Fin 7) _ => two_halves c (qd (ny (nz c))) (mj c j) fullShare fo).trans
    (bigSep_sep' Finset.univ _ _))) $$ OD
  icases OD with ⟨OD0, OD1⟩
  isplitl [HX HX' HQ HS HD O]
  · isplitl [HX]; · iexact HX
    isplitl [HQ]; · iapply (some_each (Φ := fun t f => qP (F := F) c (ck (th c t)) fullShare f) fq); iexact HQ
    isplitl [HS]; · iapply (some_each (Φ := fun t f => sP (F := F) c (ck (th c t)) fullShare f) fs); iexact HS
    isplitl [HD]; · iapply (some_each (Φ := fun t f => dP (F := F) c (ck (mn c t)) fullShare f) fd); iexact HD
    isplitl [O]; · iapply (some_each (Φ := fun t f => oP (F := F) c (qb (qd c) (mn c t)) fullShare f) fo); iexact O
    iexact HX'
  isplitl [HR OY7 OZ7 OD7]
  · iapply (give_x c fr fr fo)
    isplitl [HR]; · iexact HR
    isplitl [OY7]; · iexact OY7
    isplitl [OZ7] <;> iassumption
  isplitl [OY OD0]
  · iapply (give_y c fo); isplitl [OY] <;> iassumption
  iapply (give_z c fo); isplitl [OZ] <;> iassumption

/-! ## The memory at the end -/

theorem o_end (c : Dev nD) (f : Vec F S4096x1024 .bf16) :
    iprop((bigSep Finset.univ fun t => oP c (qb (qd c) (mn c t)) fullShare f)
        ∗ ((bigSep Finset.univ fun j => oP c (qb (qd (ny c)) (mj c j)) hR f) ∗ (bigSep Finset.univ fun j => oP c (hb (qd (ny c)) 0 (mj c j)) hL f)
          ∗ (bigSep Finset.univ fun j => oP c (hb (qd (ny c)) 1 (mj c j)) hL f) ∗ oP c (qb (qd (ny c)) (mn c 7)) fullShare f)
        ∗ ((bigSep Finset.univ fun j => oP c (qb (qd (nz c)) (mj c j)) hR f) ∗ (bigSep Finset.univ fun j => oP c (hb (qd (nz c)) 0 (mj c j)) hL f)
          ∗ (bigSep Finset.univ fun j => oP c (hb (qd (nz c)) 1 (mj c j)) hL f) ∗ oP c (qb (qd (nz c)) (mn c 7)) fullShare f)
        ∗ (bigSep Finset.univ fun j => oP c (qb (qd (ny (nz c))) (mj c j)) fullShare f) ∗ oP c (qb (qd (ny (nz c))) (mn c 7)) fullShare f)
      ⊢ oP c Finset.univ fullShare f := by
  have h (q : Fin 4) : iprop((bigSep Finset.univ fun j => oP c (qb q (mj c j)) hR f) ∗ (bigSep Finset.univ fun j => oP c (hb q 0 (mj c j)) hL f)
          ∗ (bigSep Finset.univ fun j => oP c (hb q 1 (mj c j)) hL f) ∗ oP c (qb q (mn c 7)) fullShare f)
        ⊢ bigSep Finset.univ fun t => oP c (qb q (mn c t)) fullShare f := by
    rw [last8]
    iintro ⟨H, H0, H1, H7⟩
    isplitr [H7]
    · iapply (Entails.of_eq ((bigSep_congr fun (j : Fin 7) _ => (halves fullShare).trans
        (congrArg (fun X => iprop(X ∗ oP c (qb q (mj c j)) hR f)) (two_halves c q (mj c j) hL f))).trans
        ((bigSep_sep' Finset.univ _ _).trans (congrArg (fun X => iprop(X ∗ bigSep Finset.univ fun j => oP c (qb q (mj c j)) hR f)) (bigSep_sep' Finset.univ _ _)))).symm)
      isplitr [H]
      · isplitl [H0] <;> iassumption
      iexact H
    iexact H7
  rw [o_blocks, last8 fun t => oP c (qb (qd (ny (nz c))) (mn c t)) fullShare f]
  iintro ⟨H, HY, HZ, HD⟩
  isplitl [H]; · iexact H
  isplitl [HY]; · iapply (h (qd (ny c))); iexact HY
  isplitl [HZ]; · iapply (h (qd (nz c))); iexact HZ
  iexact HD

theorem d_end (c : Dev nD) (f : Vec F S1024x1024 .bf16) :
    iprop((bigSep Finset.univ fun t => dP c (ck (mn c t)) hL f) ∗ (bigSep Finset.univ fun j => dP c (ck (mj c j)) hR.left f)
        ∗ (bigSep Finset.univ fun j => dP c (ck (mj c j)) hR.right f) ∗ dP c (ck (mn c 7)) hR f)
      ⊢ dP c Finset.univ fullShare f := by
  iintro ⟨H, H0, H1, H7⟩
  iapply (Entails.of_eq (halves fullShare).symm)
  isplitl [H]
  · iapply (Entails.of_eq (d_chunks c hL f).symm); iexact H
  iapply (Entails.of_eq ((d_chunks c hR f).trans (last8 _)).symm)
  isplitl [H0 H1]
  · iapply (Entails.of_eq ((bigSep_congr fun (j : Fin 7) _ => halves hR).trans (bigSep_sep' Finset.univ _ _)).symm)
    isplitl [H0] <;> iassumption
  iexact H7

theorem s_end (c : Dev nD) (f : Vec F S1024x1024 .bf16) :
    iprop((bigSep Finset.univ fun t => sP c (ck (th c t)) hL f) ∗ bigSep Finset.univ fun t => sP c (ck (mn c t)) hR f)
      ⊢ sP c Finset.univ fullShare f := by
  iintro ⟨H, H'⟩
  iapply (Entails.of_eq (halves fullShare).symm)
  isplitl [H]
  · iapply (Entails.of_eq (s_chunks_th c hL f).symm); iexact H
  iapply (Entails.of_eq (s_chunks_mn c hR f).symm); iexact H'

end Cert.KernelIdeal.Own

end
-- ==== Proof.Ideal.Cells.lean ====
/-
The cells of a device, and what it starts and ends with.
-/
module

public import proofs.«01_k».proof.Proof.Ideal.Mem

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (κ : Dev nD × Cel → ℕ)

/-! ## Cells, kind by kind -/

theorem first8 (Φ : Fin 8 → sProp 𝕄) :
    bigSep Finset.univ Φ = iprop(Φ 0 ∗ bigSep Finset.univ fun j : Fin 7 => Φ j.succ) := by
  rw [list8, list7]; rfl

/-- Two transfers along y or z, of the seven chunks a device sends, and of the last one, which it does not; -/
def seven (Ψ : Fin 8 → sProp 𝕄) : sProp 𝕄 := iprop((bigSep Finset.univ fun j : Fin 7 => Ψ j.castSucc) ∗ Ψ 7)
/-- the one transfer of a phase at the end, and the cells that stay unused. -/
def one (Ψ : Fin 8 → sProp 𝕄) : sProp 𝕄 := iprop(Ψ 0 ∗ bigSep Finset.univ fun j : Fin 7 => Ψ j.succ)

theorem by_phase (Ψ : Fin 8 → Fin 8 → sProp 𝕄) :
    (bigSep Finset.univ fun x : Fin 8 × Fin 8 => Ψ x.1 x.2)
      = iprop((bigSep Finset.univ fun t => Ψ 0 t) ∗ seven (Ψ 1) ∗ seven (Ψ 2) ∗ seven (Ψ 3) ∗ seven (Ψ 4) ∗ one (Ψ 5) ∗ one (Ψ 6) ∗ one (Ψ 7)) := by
  rw [bigSep_univ_prod, list8]
  unfold seven one
  rw [← last8, ← last8, ← last8, ← last8, ← first8, ← first8, ← first8]

theorem by_kind (Φ : Cel → sProp 𝕄) :
    bigSep Finset.univ Φ = iprop(Φ cB ∗ (bigSep Finset.univ fun t => Φ (cI t)) ∗ (bigSep Finset.univ fun t => Φ (cO t))
      ∗ (bigSep Finset.univ fun x : Fin 8 × Fin 8 => Φ (cS x.1 x.2)) ∗ bigSep Finset.univ fun x : Fin 8 × Fin 8 => Φ (cR x.1 x.2)) := by
  rw [bigSep_univ_sum, bigSep_univ_sum, bigSep_univ_sum, bigSep_univ_sum, bigSep_univ_eq_bigSepL [()] (by decide) (by decide)]
  rfl

/-! ## The start -/

/-- The axis a transfer goes along. -/
def hop : Fin 8 → Fin 3
  | 1 => 1 | 3 => 1
  | 2 => 2 | 4 => 2
  | _ => 0
/-- Who pays the first duty of a cell. -/
def payer : Cel → Dev nD → Dev nD
  | .inl _ => nb 0
  | .inr (.inl _) => id
  | .inr (.inr (.inl _)) => id
  | .inr (.inr (.inr (.inl _))) => id
  | .inr (.inr (.inr (.inr (p, _)))) => nb (hop p)
theorem payer_payer (e : Cel) (c : Dev nD) : payer e (payer e c) = c := by
  rcases e with _ | t | t | ⟨p, t⟩ | ⟨p, t⟩
  · exact nb_nb 0 c
  · rfl
  · rfl
  · rfl
  · exact nb_nb (hop p) c

/-- The tokens a device spends, -/
def Tok (c : Dev nD) : sProp 𝕄 :=
  iprop((bigSep Finset.univ fun e => tk (F := F) (payer e c) e 0) ∗ tk (ny c) cB 1 ∗ tk (nz c) cB 2)
/-- its places, -/
def Pos (c : Dev nD) : sProp 𝕄 := bigSep Finset.univ fun e => ps (F := F) c e 0
/-- its credit. -/
def Crd (c : Dev nD) : sProp 𝕄 :=
  iprop(cred (tallyAt (gc c cB) () 3) ∗ (bigSep Finset.univ fun t => cr (F := F) c (cR 0 t))
    ∗ ((bigSep Finset.univ fun j : Fin 7 => cr (F := F) c (cR 1 j.castSucc)) ∗ (bigSep Finset.univ fun j : Fin 7 => cr (F := F) c (cR 2 j.castSucc))
      ∗ (bigSep Finset.univ fun j : Fin 7 => cr (F := F) c (cR 3 j.castSucc)) ∗ (bigSep Finset.univ fun j : Fin 7 => cr (F := F) c (cR 4 j.castSucc)))
    ∗ cr c (cR 5 0) ∗ cr c (cR 6 0) ∗ cr c (cR 7 0))

/-- The cells of a kind of transfer that no transfer uses. -/
def idle (Ψ : Fin 8 → Fin 8 → sProp 𝕄) : sProp 𝕄 :=
  iprop((Ψ 1 7 ∗ Ψ 2 7 ∗ Ψ 3 7 ∗ Ψ 4 7) ∗ (bigSep Finset.univ fun j : Fin 7 => Ψ 5 j.succ) ∗ (bigSep Finset.univ fun j : Fin 7 => Ψ 6 j.succ)
    ∗ bigSep Finset.univ fun j : Fin 7 => Ψ 7 j.succ)
/-- What a device does not touch. -/
def Rest (c : Dev nD) : sProp 𝕄 :=
  iprop(idle (fun p t => ps (F := F) c (cS p t) 0) ∗ idle (fun p t => ps (F := F) c (cR p t) 0) ∗ xP c (xRest c) fullShare (Xv m c))

theorem tok_eq (c : Dev nD) :
    (bigSep Finset.univ fun e => tk (F := F) (payer e c) e 0)
      = iprop(tk (nx c) cB 0 ∗ (bigSep Finset.univ fun t => tk (F := F) c (cI t) 0) ∗ (bigSep Finset.univ fun t => tk (F := F) c (cO t) 0)
        ∗ ((bigSep Finset.univ fun t => tk (F := F) c (cS 0 t) 0) ∗ seven (fun t => tk (F := F) c (cS 1 t) 0) ∗ seven (fun t => tk (F := F) c (cS 2 t) 0)
          ∗ seven (fun t => tk (F := F) c (cS 3 t) 0) ∗ seven (fun t => tk (F := F) c (cS 4 t) 0)
          ∗ one (fun t => tk (F := F) c (cS 5 t) 0) ∗ one (fun t => tk (F := F) c (cS 6 t) 0) ∗ one (fun t => tk (F := F) c (cS 7 t) 0))
        ∗ ((bigSep Finset.univ fun t => tk (F := F) (nx c) (cR 0 t) 0) ∗ seven (fun t => tk (F := F) (ny c) (cR 1 t) 0) ∗ seven (fun t => tk (F := F) (nz c) (cR 2 t) 0)
          ∗ seven (fun t => tk (F := F) (ny c) (cR 3 t) 0) ∗ seven (fun t => tk (F := F) (nz c) (cR 4 t) 0)
          ∗ one (fun t => tk (F := F) (nx c) (cR 5 t) 0) ∗ one (fun t => tk (F := F) (nx c) (cR 6 t) 0) ∗ one (fun t => tk (F := F) (nx c) (cR 7 t) 0))) := by
  rw [by_kind, by_phase fun p t => tk (F := F) (payer (cS p t) c) (cS p t) 0, by_phase fun p t => tk (F := F) (payer (cR p t) c) (cR p t) 0]
  rfl

set_option maxHeartbeats 1000000 in
/-- From what the launch deals to what the body starts with. -/
theorem start_of (c : Dev nD) :
    iprop(Tok (F := F) c ∗ Pos (F := F) c ∗ Crd (F := F) c ∗ Mem0 m c) ⊢ iprop(Start m c ∗ Rest m c) := by
  unfold Tok Pos Crd
  rw [tok_eq, by_kind, by_phase fun p t => ps (F := F) c (cS p t) 0, by_phase fun p t => ps (F := F) c (cR p t) 0]
  unfold seven one
  iintro ⟨⟨⟨tB, tI, tO, ⟨tS0, ⟨tS1, -⟩, ⟨tS2, -⟩, ⟨tS3, -⟩, ⟨tS4, -⟩, ⟨tS5, -⟩, ⟨tS6, -⟩, ⟨tS7, -⟩⟩,
      ⟨tR0, ⟨tR1, -⟩, ⟨tR2, -⟩, ⟨tR3, -⟩, ⟨tR4, -⟩, ⟨tR5, -⟩, ⟨tR6, -⟩, ⟨tR7, -⟩⟩⟩, tB1, tB2⟩,
    ⟨pB, pI, pO, ⟨pS0, ⟨pS1, uS1⟩, ⟨pS2, uS2⟩, ⟨pS3, uS3⟩, ⟨pS4, uS4⟩, ⟨pS5, uS5⟩, ⟨pS6, uS6⟩, ⟨pS7, uS7⟩⟩,
      ⟨pR0, ⟨pR1, uR1⟩, ⟨pR2, uR2⟩, ⟨pR3, uR3⟩, ⟨pR4, uR4⟩, ⟨pR5, uR5⟩, ⟨pR6, uR6⟩, ⟨pR7, uR7⟩⟩⟩,
    ⟨kB, k0, ⟨k1, k2, k3, k4⟩, k5, k6, k7⟩, HM⟩
  ihave HM := (mem_start m c) $$ HM
  unfold Keep
  icases HM with ⟨⟨HX, HQ, HS, HD, HO, HX'⟩, BX, BY, BZ⟩
  unfold Start inA bA xA sA hA fA wA lT lA Rest idle
  simp only [bigSep_sep']
  iframe

/-! ## The end -/

/-- How many rounds a cell goes through. -/
def rnd : Cel → ℕ
  | .inl _ => 1
  | .inr (.inl _) => 1
  | .inr (.inr (.inl _)) => 1
  | .inr (.inr (.inr (.inl (p, t)))) => if us p t then 1 else 0
  | .inr (.inr (.inr (.inr (p, t)))) => if us p t then 1 else 0

theorem used : (∀ j : Fin 7, us 1 j.castSucc = true) ∧ (∀ j : Fin 7, us 2 j.castSucc = true) ∧ (∀ j : Fin 7, us 3 j.castSucc = true)
    ∧ (∀ j : Fin 7, us 4 j.castSucc = true) ∧ us 5 0 = true ∧ us 6 0 = true ∧ us 7 0 = true := by decide
theorem unused : us 1 7 = false ∧ us 2 7 = false ∧ us 3 7 = false ∧ us 4 7 = false
    ∧ (∀ j : Fin 7, us 5 j.succ = false) ∧ (∀ j : Fin 7, us 6 j.succ = false) ∧ (∀ j : Fin 7, us 7 j.succ = false) := by decide

theorem rcv_5 (c : Dev nD) : rcvP m c 0 5 = oP c (qb (qd (ny c)) (mn c 7)) fullShare (Tv m c) := rfl
theorem rcv_6 (c : Dev nD) : rcvP m c 0 6 = oP c (qb (qd (nz c)) (mn c 7)) fullShare (Tv m c) := rfl
theorem rcv_7 (c : Dev nD) : rcvP m c 0 7 = oP c (qb (qd (ny (nz c))) (mn c 7)) fullShare (Tv m c) := rfl

set_option maxHeartbeats 2000000 in
theorem end_of (c : Dev nD) :
    iprop(Fini m c ∗ Rest m c) ⊢ iprop((bigSep Finset.univ fun e => ps (F := F) c e (rnd e)) ∗ Mem1 m c) := by
  obtain ⟨u1, u2, u3, u4, u5, u6, u7⟩ := used
  obtain ⟨v1, v2, v3, v4, v5, v6, v7⟩ := unused
  rw [by_kind, by_phase fun p t => ps (F := F) c (cS p t) (rnd (cS p t)), by_phase fun p t => ps (F := F) c (cR p t) (rnd (cR p t))]
  unfold Fini Rest Mem1 xK sK fB wB lB outP idle seven one
  rw [rcv_5, rcv_6, rcv_7]
  simp only [bigSep_sep', rnd, us_0, u1, u2, u3, u4, u5, u6, u7, v1, v2, v3, v4, v5, v6, v7, if_true, Bool.false_eq_true, if_false]
  iintro ⟨⟨pB, ⟨pI, HX, HQ⟩, ⟨pS0, pR0, S0, S1, R⟩, D7, ⟨⟨pS1, pS2, pR1, pR2⟩, ⟨D1, D2⟩, OY0, OZ1⟩, ⟨⟨pS3, pR3, pS4, pR4⟩, OZ0, OY1⟩,
      OYr, OZr, OD, ⟨⟨pS5, pR5⟩, ⟨pS6, pR6⟩, ⟨pS7, pR7⟩⟩, ⟨OY7, OZ7, OD7⟩, pO, O, D0⟩, U, U', HX'⟩
  ihave HX := (Entails.of_eq (x_chunks c fullShare (Xv m c)).symm) $$ [HX HX']
  · isplitl [HX] <;> iassumption
  ihave HQ := (Entails.of_eq (q_chunks c fullShare (Qv m c)).symm) $$ HQ
  ihave HS := (s_end c (Sv m c)) $$ [S0 S1]
  · isplitl [S0] <;> iassumption
  ihave HR := (Entails.of_eq (r_chunks c fullShare (Sv m (nx c))).symm) $$ R
  ihave HD := (d_end c (Dv m c)) $$ [D0 D1 D2 D7]
  · iframe
  ihave HO := (o_end c (Tv m c)) $$ [O OYr OY0 OY1 OY7 OZr OZ0 OZ1 OZ7 OD OD7]
  · iframe
  icases U with ⟨⟨a1, a2, a3, a4⟩, a5, a6, a7⟩
  icases U' with ⟨⟨b1, b2, b3, b4⟩, b5, b6, b7⟩
  isplitr [HX HQ HS HR HD HO]
  · iframe
  isplitl [HX]; · iexact HX
  isplitl [HO]; · iexact HO
  isplitl [HQ]; · iexists _; iexact HQ
  isplitl [HS]; · iexists _; iexact HS
  isplitl [HR]; · iexists _; iexact HR
  iexists _; iexact HD

end Cert.KernelIdeal.Own

end
-- ==== Proof.Ideal.Deal.lean ====
/-
What the launch deals to every device.
-/
module

public import proofs.«01_k».proof.Proof.Ideal.Cells

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (κ : Dev nD × Cel → ℕ)

/-! ## Ghost state at launch -/

def allCells : Finset (GSem nD τ sig) :=
  Finset.univ.map ⟨fun p : Dev nD × Cel => gc p.1 p.2, fun p p' h => Prod.ext (gc_inj h).1 (gc_inj h).2⟩
def allToks : Finset (GSem nD τ sig × ℕ × Fin 3) :=
  Finset.univ.map ⟨fun p : (Dev nD × Cel) × Fin 3 => (gc p.1.1 p.1.2, 0, p.2), fun p p' h => by
    have h1 := gc_inj (congrArg Prod.fst h)
    exact Prod.ext (Prod.ext h1.1 h1.2) (congrArg (fun x : GSem nD τ sig × ℕ × Fin 3 => x.2.2) h)⟩

/-- What the launch gives device `c`: the state of its cells, its places, that they have begun, and their tokens. -/
def G (c : Dev nD) : sProp 𝕄 :=
  iprop((bigSep Finset.univ fun e => roundState ER (Rd m) (gc c e) 0) ∗ (bigSep Finset.univ fun e => (reached ER (gc c e) 0 : sProp 𝕄))
    ∗ Pos (F := F) c ∗ bigSep Finset.univ fun e => bigSep Finset.univ fun d : Fin 3 => tk (F := F) c e d)

theorem fund_cells : BI.own (ER (initOf allCells allToks)) ⊢ (|==> bigSep Finset.univ (G m) : sProp 𝕄) := by
  have hc (Φ : GSem nD τ sig → sProp 𝕄) :
      bigSep allCells Φ = bigSep Finset.univ fun c : Dev nD => bigSep Finset.univ fun e : Cel => Φ (gc c e) := by
    unfold allCells; rw [bigSep_map, bigSep_univ_prod]; rfl
  have ht : bigSep allToks (fun x => (dutyTok ER x.1 x.2.1 x.2.2 : sProp 𝕄))
      = bigSep Finset.univ fun c : Dev nD => bigSep Finset.univ fun e : Cel => bigSep Finset.univ fun d : Fin 3 => tk (F := F) c e d := by
    unfold allToks; rw [bigSep_map, bigSep_univ_prod, bigSep_univ_prod]; rfl
  refine (Rounds.fund ER (Rd m) allCells allToks).trans (BI.bupd_mono ?_)
  rw [hc, hc, hc, ht]
  unfold G Pos
  simp only [bigSep_sep']
  show (_ : sProp 𝕄) ⊢ _
  iintro H
  iexact H

/-! ## The invariants -/

/-- The counters of a device are its barrier's and its transfers'. -/
abbrev Kel : Type := Fin 8 ⊕ Fin 8 ⊕ (Fin 8 × Fin 8) ⊕ (Fin 8 × Fin 8)
def osem (k : Kel) : SemLoc sig := sm (.inr k)

theorem unscoped_bar (c : Dev nD) : (unscopedSems0 c : sProp 𝕄) = semVal (gc c cB) 0 := by
  unfold unscopedSems0
  rw [bigSep_eq_bigSepL_of_eq [SemLoc.reg barS] (by decide +kernel) (by decide +kernel)]
  rfl

theorem counters (c : Dev nD) :
    (bigSep Finset.univ fun e => (semVal (gc c e) 0 : sProp 𝕄)) = iprop(unscopedSems0 c ∗ Pipeline.ownSems0 osem c) := by
  rw [unscoped_bar, bigSep_univ_sum, bigSep_univ_eq_bigSepL [()] (by decide) (by decide)]
  rfl

/-- The invariants and the begun rounds. -/
def Inv : sProp 𝕄 :=
  iprop((bigSep Finset.univ fun p : Dev nD × Cel => cellInv ER (Rd m) (κ p) (gc p.1 p.2))
    ∗ bigSep Finset.univ fun p : Dev nD × Cel => reached ER (gc p.1 p.2) 0)
instance Inv_persistent : BI.Persistent (Inv (F := F) m κ) := by unfold Inv; infer_instance

theorem alloc :
    (bigSep Finset.univ fun p : Dev nD × Cel => iprop(semVal (gc p.1 p.2) 0 ∗ roundState ER (Rd (F := F) m) (gc p.1 p.2) 0))
      ⊢ |={Set.univ}=> ∃ κ : Dev nD × Cel → ℕ, bigSep Finset.univ fun p : Dev nD × Cel => cellInv ER (Rd m) (κ p) (gc p.1 p.2) :=
  ((bigSep_mono fun p _ => (Rounds.body_intro ER (Rd m) (gc p.1 p.2)).trans inv_alloc).trans (bigSep_fupd _ _)).trans
    (BI.fupd_mono (BI.bigSep_exists_pi Finset.univ fun (p : Dev nD × Cel) (i : ℕ) => cellInv ER (Rd (F := F) m) i (gc p.1 p.2)))

/-! ## The tokens -/

def payers (e : Cel) : Dev nD ≃ Dev nD := ⟨payer e, payer e, payer_payer e, payer_payer e⟩
def nbs (a : Fin 3) : Dev nD ≃ Dev nD := ⟨nb a, nb a, nb_nb a, nb_nb a⟩

theorem three (Φ : Fin 3 → sProp 𝕄) : bigSep Finset.univ Φ = iprop(Φ 0 ∗ Φ 1 ∗ Φ 2) :=
  bigSep_univ_eq_bigSepL [0, 1, 2] (by decide) (by decide) Φ

theorem swap (Φ : Dev nD → Cel → sProp 𝕄) :
    (bigSep Finset.univ fun c => bigSep Finset.univ fun e => Φ c e) = bigSep Finset.univ fun e => bigSep Finset.univ fun c => Φ c e := by
  rw [← bigSep_univ_prod fun p : Dev nD × Cel => Φ p.1 p.2, bigSep_univ_equiv (Equiv.prodComm Cel (Dev nD)), bigSep_univ_prod]
  rfl

/-- Every token goes to the device that pays it. -/
theorem deal :
    (bigSep Finset.univ fun c : Dev nD => bigSep Finset.univ fun e : Cel => bigSep Finset.univ fun d : Fin 3 => tk (F := F) c e d)
      ⊢ bigSep Finset.univ fun c : Dev nD => Tok (F := F) c := by
  have h0 : (bigSep Finset.univ fun c : Dev nD => bigSep Finset.univ fun e : Cel => tk (F := F) (payer e c) e 0)
      = bigSep Finset.univ fun c : Dev nD => bigSep Finset.univ fun e : Cel => tk (F := F) c e 0 := by
    rw [swap, swap fun (c : Dev nD) (e : Cel) => tk (F := F) c e 0]
    exact bigSep_congr fun e _ => (bigSep_univ_equiv (payers e) fun c => tk (F := F) c e 0).symm
  have hn (a d : Fin 3) : (bigSep Finset.univ fun c : Dev nD => tk (F := F) (nb a c) cB d)
      = bigSep Finset.univ fun c : Dev nD => tk (F := F) c cB d := (bigSep_univ_equiv (nbs a) fun c => tk (F := F) c cB d).symm
  have hb (c : Dev nD) (d : Fin 3) : (bigSep Finset.univ fun e : Cel => tk (F := F) c e d) ⊢ tk (F := F) c cB d :=
    bigSep_elim (Finset.mem_univ cB)
  unfold Tok
  rw [bigSep_sep', bigSep_sep', h0]
  refine BI.Entails.trans ?_ (Entails.of_eq (show _ = iprop(_ ∗ (bigSep Finset.univ fun c : Dev nD => tk (F := F) (nb 1 c) cB 1)
    ∗ bigSep Finset.univ fun c : Dev nD => tk (F := F) (nb 2 c) cB 2) from rfl))
  rw [hn, hn, ← bigSep_sep', ← bigSep_sep']
  refine bigSep_mono fun c _ => ?_
  simp only [three, bigSep_sep']
  show (_ : sProp 𝕄) ⊢ _
  iintro ⟨H0, H1, H2⟩
  isplitl [H0]; · iexact H0
  isplitl [H1]
  · iapply (hb c 1); iexact H1
  · iapply (hb c 2); iexact H2

/-! ## What every device starts with -/

def G' (c : Dev nD) : sProp 𝕄 := iprop((∃ κ, Inv m κ) ∗ Pos (F := F) c ∗ Tok (F := F) c)

theorem share_out (R : sProp 𝕄) [BI.Persistent R] (Φ : Dev nD → sProp 𝕄) :
    iprop(R ∗ bigSep Finset.univ Φ) ⊢ bigSep Finset.univ fun c => iprop(R ∗ Φ c) :=
  (sep_mono_left (BI.bigSep_of_persistent Finset.univ R)).trans (Entails.of_eq (bigSep_sep' _ _ _).symm)

theorem glob :
    (bigSep Finset.univ fun c : Dev nD => iprop(Pipeline.ownSems0 osem c ∗ unscopedSems0 c ∗ G m c))
      ⊢ |={Set.univ}=> bigSep Finset.univ fun c => G' m c := by
  have h : ∀ c : Dev nD, iprop(Pipeline.ownSems0 osem c ∗ unscopedSems0 c ∗ G m c)
      ⊢ iprop((bigSep Finset.univ fun e => iprop(semVal (gc c e) 0 ∗ roundState ER (Rd (F := F) m) (gc c e) 0))
        ∗ (bigSep Finset.univ fun e => reached ER (gc c e) 0) ∗ Pos c ∗ bigSep Finset.univ fun e => bigSep Finset.univ fun d : Fin 3 => tk (F := F) c e d) := fun c => by
    rw [bigSep_sep', counters]
    unfold G
    iintro ⟨Ho, Hu, Hs, Hr, Hp, Ht⟩
    iframe
  have hp (Φ : Dev nD → Cel → sProp 𝕄) : (bigSep Finset.univ fun c => bigSep Finset.univ fun e => Φ c e)
      = bigSep Finset.univ fun p : Dev nD × Cel => Φ p.1 p.2 := (bigSep_univ_prod fun p : Dev nD × Cel => Φ p.1 p.2).symm
  refine (bigSep_mono fun c _ => h c).trans ?_
  rw [bigSep_sep', bigSep_sep', bigSep_sep', hp, hp]
  show (_ : sProp 𝕄) ⊢ _
  iintro ⟨Hs, Hr, Hp, Ht⟩
  imod (alloc m) $$ Hs with ⟨%κ, Hi⟩
  ihave Ht := (deal) $$ Ht
  imodintro
  iapply (show iprop(Inv m κ ∗ bigSep Finset.univ fun c : Dev nD => iprop(Pos (F := F) c ∗ Tok (F := F) c)) ⊢ bigSep Finset.univ fun c => G' m c from
    (share_out (Inv m κ) _).trans (bigSep_mono fun c _ => by
      unfold G'
      show (_ : sProp 𝕄) ⊢ _
      iintro ⟨Hi, H⟩
      isplitl [Hi]; · iexists κ; iexact Hi
      iexact H))
  unfold Inv
  rw [bigSep_sep']
  iframe

/-! ## The credit -/

/-- How many payments a cell gets. -/
def cnt (e : Cel) : ℕ := ∑ i ∈ Finset.range 42, if (pay i).2 = e then 1 else 0

theorem credit_of (c : Dev nD) (e : Cel) :
    launchCredit (Pipeline.owing fun d => Ow d 0) 0 (gc c e) = (tallyAt (gc c e) () (cnt e * amt e) : CellTallies nD τ sig Unit) (gc c e) := by
  refine Finsupp.ext fun u => ?_
  rw [Pipeline.launchCredit_owing, tallyAt_apply, if_pos ⟨rfl, rfl⟩]
  unfold Ow cnt
  have h1 : ∀ d : Dev nD, (∑ i ∈ Finset.Ico 0 42, payT d i) (gc c e) u
      = ∑ i ∈ Finset.range 42, if d = nb (pay i).1 c then (if (pay i).2 = e then amt e else 0) else 0 := fun d => by
    rw [Finset.sum_apply, Finsupp.finset_sum_apply, Nat.Ico_zero_eq_range]
    refine Finset.sum_congr rfl fun i _ => ?_
    unfold payT
    rw [tallyAt_apply]
    by_cases hd : d = nb (pay i).1 c
    · by_cases he : (pay i).2 = e
      · rw [if_pos hd, if_pos he, if_pos ⟨by rw [hd, nb_nb, he], rfl⟩, he]
      · rw [if_pos hd, if_neg he, if_neg fun h => he (gc_inj h.1).2.symm]
    · rw [if_neg hd, if_neg fun h => hd (by have h2 := (gc_inj h.1).1; rw [h2, nb_nb])]
  rw [Finset.sum_congr rfl fun d _ => h1 d, Finset.sum_comm, Finset.sum_mul]
  refine Finset.sum_congr rfl fun i _ => ?_
  rw [Finset.sum_ite_eq' Finset.univ, if_pos (Finset.mem_univ _), ite_mul, one_mul, zero_mul]

theorem cnt_bar : cnt cB = 3 := by decide +kernel
theorem cnt_used : ∀ p t : Fin 8, us p t = true → cnt (cR p t) = 1 := by decide +kernel

theorem credits (c : Dev nD) :
    (Pipeline.launchCred (fun d => Ow d 0) c : sProp 𝕄) = bigSep Finset.univ fun e : Cel => cred (tallyAt (gc c e) () (cnt e * amt e)) := by
  unfold Pipeline.launchCred
  rw [bigSep_univ_equiv cells]
  refine bigSep_congr fun e _ => ?_
  show cred (tallyOn (gc c e) (launchCredit (Pipeline.owing fun d => Ow d 0) 0 (gc c e))) = _
  rw [credit_of]
  unfold tallyAt
  rw [tallyOn_self]

theorem crd_of (c : Dev nD) : (Pipeline.launchCred (fun d => Ow d 0) c : sProp 𝕄) ⊢ Crd (F := F) c := by
  obtain ⟨u1, u2, u3, u4, u5, u6, u7⟩ := used
  have hb : (cred (tallyAt (gc c cB) () (cnt cB * amt cB)) : sProp 𝕄) = cred (tallyAt (gc c cB) () 3) := by rw [cnt_bar]; rfl
  have hr (p t : Fin 8) (h : us p t = true) : (cred (tallyAt (gc c (cR p t)) () (cnt (cR p t) * amt (cR p t))) : sProp 𝕄) = cr c (cR p t) := by
    rw [cnt_used p t h, one_mul]
  rw [credits, by_kind, by_phase fun p t => (cred (tallyAt (gc c (cR p t)) () (cnt (cR p t) * amt (cR p t))) : sProp 𝕄), hb]
  unfold seven one Crd
  simp only [hr 0 _ (us_0 _), hr 1 _ (u1 _), hr 2 _ (u2 _), hr 3 _ (u3 _), hr 4 _ (u4 _), hr 5 _ u5, hr 6 _ u6, hr 7 _ u7]
  iintro ⟨HB, -, -, -, H0, ⟨H1, -⟩, ⟨H2, -⟩, ⟨H3, -⟩, ⟨H4, -⟩, ⟨H5, -⟩, ⟨H6, -⟩, ⟨H7, -⟩⟩
  iframe

end Cert.KernelIdeal.Own

end
-- ==== Proof.Ideal.Launch.lean ====
/-
The launch, and every run of the kernel.
-/
module

public import proofs.«01_k».proof.Proof.Ideal.Deal
public import Idealize.ShloMosaic.Lib.Rounds.Family
public import Idealize.ShloMosaic.Lib.Pipeline.CollectiveSegs

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (κ : Dev nD × Cel → ℕ)

variable (g : Dev nD → PrngReg)

/-! ## Before and after the body -/

theorem ownSemFacts : Pipeline.OwnSemFacts cfg0.spec osem :=
  ⟨by decide +kernel, fun k k' h => Sum.inr_injective (sm_inj h), fun _ w => w.elim0⟩

/-- What a device is dealt, with its two arrays; -/
def X (c : Dev nD) : sProp 𝕄 :=
  iprop((∃ κ, Kn m κ) ∗ Tok (F := F) c ∗ Pos (F := F) c ∗ Crd (F := F) c ∗ xP c Finset.univ fullShare (Xv m c)
    ∗ ∃ f, oP (F := F) c Finset.univ fullShare f)
/-- what it has in the end. -/
def Y (c : Dev nD) : sProp 𝕄 :=
  iprop(unscopedSems0 c ∗ xP c Finset.univ fullShare (Xv m c) ∗ oP c Finset.univ fullShare (Tv m c))

def Φ₀ (c : Dev nD) : sProp 𝕄 := iprop((∃ κ, Kn m κ) ∗ Tok (F := F) c ∗ Pos (F := F) c ∗ Crd (F := F) c ∗ Mem0 m c)
def Φ₁ (c : Dev nD) : sProp 𝕄 := iprop((bigSep Finset.univ fun e => semVal (gc c e) 0) ∗ Mem1 m c)

def dats (_ : Fin 1) (c : Dev nD) : Dat τ (Elt F) Unit ℕ UU ℕ cfg0 c where
  A w := m ((cfg0.win w).arr.view.loc (c : Thread nD τ))
  after w := w.elim0
  Φ t := match t with
    | ⟨0, _⟩ => Φ₀ m c
    | ⟨_ + 1, _⟩ => Φ₁ m c
  q _ := fullShare
  owed t := match t with
    | ⟨0, _⟩ => Ow c 0
    | ⟨_ + 1, _⟩ => 0

/-- Every cell of a device is through: its counter comes back at zero. -/
theorem close (c : Dev nD) :
    iprop(Kn m κ ∗ bigSep Finset.univ fun e => ps (F := F) c e (rnd e)) ⊢ |={Set.univ}=> bigSep Finset.univ fun e => (semVal (gc c e) 0 : sProp 𝕄) := by
  have hr : ∀ e : Cel, rnd e = 1 ∨ rnd e = 0 ∧ dut e = ∅ := by decide +kernel
  have h1 : iprop(Kn m κ ∗ bigSep Finset.univ fun e => ps (F := F) c e (rnd e))
      ⊢ bigSep Finset.univ fun e => iprop(cellInv ER (Rd m) (κ (c, e)) (gc c e) ∗ atPos ER (gc c e) (rnd e) ∅ 0) := by
    rw [bigSep_sep']
    exact sep_mono_left ((BI.bigSep_of_persistent Finset.univ (Kn (F := F) m κ)).trans (bigSep_mono fun e _ => Kn_inv m κ c e))
  refine h1.trans (Rounds.cells_close ER (Rd m) Finset.univ (fun e => gc c e) (fun e => κ (c, e)) (fun _ _ => Set.mem_univ _)
    (fun _ _ h => h) rnd fun e _ r hle => ?_)
  rcases hr e with h | ⟨h, hd⟩
  · exact duties_later m _ r (by omega)
  · rcases Nat.eq_zero_or_pos r with rfl | hp
    · rw [duties_gc, hd]
    · exact duties_later m _ r hp

/-- The kernel from the dealt ghost state to closed cells. -/
theorem body (c : Dev nD) :
    iprop(Φ₀ m c ∗ ∃ W, owes (c : Thread nD τ) (Ow c 0) W)
      ⊢ WP c text fun _ => iprop(Φ₁ m c ∗ ∃ W, owes (c : Thread nD τ) (Ow c 42) W) := by
  unfold Φ₀ Φ₁
  iintro ⟨⟨⟨%κ, #HK⟩, HT, HP, HC, HM⟩, HO⟩
  ihave HS := (start_of m c) $$ [HT HP HC HM]
  · iframe
  icases HS with ⟨HS, HR⟩
  iapply (wp_fupd frame (wpE (defs₀ (F := F)) 𝒱₀ (c : Thread nD τ) none) Set.univ text _)
  iapply wp_wand $$ [HO HS]
  · iapply (text_wp m κ c)
    unfold St
    isplitr [HS]
    · isplitr; · iexact HK
      iexact HO
    iexact HS
  iintro %_ H
  unfold St
  icases H with ⟨⟨-, HO⟩, HF⟩
  ihave HE := (end_of m c) $$ [HF HR]
  · isplitl [HF] <;> iassumption
  icases HE with ⟨HE, HM⟩
  imod (close m κ c) $$ [HE] with HE
  · isplitr; · iexact HK
    iexact HE
  imodintro
  isplitl [HE HM]
  · isplitl [HE] <;> iassumption
  iexact HO

set_option maxRecDepth 65536 in
theorem body_obligation (c : Dev nD) : BodyObligation (dats m 0 c) (defs₀ (F := F)) 𝒱₀ () Set.univ := fun t => by
  rw [fin_N0 t, show (Finset.univ : Finset (Fin cfg0.W)) = ∅ from rfl, bigSep_empty, bigSep_empty]
  have h : iprop(Φ₀ m c ∗ (dats m 0 c).owesAt () t0_0.castSucc ∗ emp)
      ⊢ WP c text fun _ => iprop(Φ₁ m c ∗ (dats m 0 c).owesAt () t0_0.succ ∗ emp) := by
    unfold Dat.owesAt Pipeline.owesWithin
    iintro ⟨HΦ, ⟨%W, -, HO⟩, -⟩
    iapply wp_wand $$ [HΦ HO]
    · iapply (body m c)
      isplitl [HΦ]; · iexact HΦ
      iexists W
      iexact HO
    iintro %_ ⟨HΦ, ⟨%W', HO⟩⟩
    ihave HO := (Entails.of_eq (show owes (c : Thread nD τ) (Ow c 42) W' = (owes (c : Thread nD τ) ((dats m 0 c).owed t0_0.succ) W' : sProp 𝕄) by rw [Ow_end]; rfl)) $$ HO
    isplitl [HΦ]; · iexact HΦ
    isplitl
    · iexists W'
      isplitr; · ipureintro; exact fun _ _ => Or.inl trivial
      iexact HO
    · iempintro
  rw [show defs₀ (F := F) .tc cfg0.body (cfg0.bodyArgs t0_0 (cfg0.slots t0_0)) = text from body_text t0_0]
  exact h

/-! ## The launch -/

theorem hX (c : Dev nD) :
    iprop(Pipeline.unscopedRestP Pipeline.Prefetch.none cfg0.spec c (fun b => m ((c : Thread nD τ).loc b)) ∗ levAts L lv
        ∗ Pipeline.launchCred (fun d => Ow d 0) c ∗ prngReg c (g c) ∗ G' m c)
      ⊢ |={Set.univ}=> iprop(X m c ∗ emp) := by
  rw [Pipeline.unscopedRestP_none, unscopedRest0_eq]
  unfold G' X Inv Kn
  iintro ⟨⟨HX, HO⟩, HL, HC, -, ⟨⟨%κ, HI⟩, HP, HT⟩⟩
  ihave HC := (crd_of c) $$ HC
  imodintro
  isplitl
  · isplitl [HL HI]
    · iexists κ
      isplitl [HL] <;> iassumption
    isplitl [HT]; · iexact HT
    isplitl [HP]; · iexact HP
    isplitl [HC]; · iexact HC
    isplitl [HX]; · iexact HX
    iexists _; iexact HO
  · iempintro

theorem hin (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold X Φ₀ Mem0
  iintro ⟨⟨HK, HT, HP, HC, HX, HO⟩, -, HQ, HS, HR, HD⟩
  iframe

theorem hout (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ Mem1 Y
  rw [counters]
  iintro ⟨⟨HU, HW⟩, HX, HO, HQ, HS, HR, HD⟩
  iframe

theorem waits (c : Dev nD) : (levAts L lv : sProp 𝕄) ⊢ Pipeline.cellsWaits cfgs (dats m) () 0 c :=
  Pipeline.cellsWaits_intro cfgs (dats m) () 0 c fun w s t => w.elim0

def u₀ : UU := (initOf (Pipeline.cells cfgs cellOf_inj) (Pipeline.launchToks cfgs cellOf_inj), initOf allCells allToks)

/-- What holds of the memory in the end at a device. -/
def QY (c : Dev nD) (s : MemSt nD τ sig (Elt F)) : Prop :=
  s.mem ((c : Thread nD τ).loc main_arg0) = Xv m c ∧ s.mem ((c : Thread nD τ).loc main_v1) = Tv m c
    ∧ ∀ k : SemLoc sig, k.isScoped .tc = false → s.sem ((c : Thread nD τ), k) = 0

theorem hY (c : Dev nD) (s' : Phys nD τ sig (Elt F)) :
    iprop(Y m c ∗ emp ∗ SI s') ⊢ |={Set.univ}=> iprop(⌜QY m c s'.mem⌝ ∗ SI s' : sProp 𝕄) := by
  have hx (ℓ : Loc nD τ sig) (f : Buf (Elt F) ℓ) : iprop((ℓ ↦{fullShare} f : sProp 𝕄) ∗ SI s') ⊢ iprop(⌜s'.mem.mem ℓ = f⌝ ∗ SI s') := by
    have h := pointsTo_read_all (Ix := Unit) (Name := ℕ) (U := UU) (Lvl := ℕ) (Finset.univ : Finset Unit) (fun _ => ℓ) (fun _ => f) s'
    rw [bigSep_univ_eq_bigSepL [()] (by decide) (by decide), bigSepL_singleton] at h
    refine BI.Entails.trans h ?_
    show (_ : sProp 𝕄) ⊢ _
    iintro ⟨%h, H⟩
    isplitr; · ipureintro; exact h () (Finset.mem_univ _)
    iexact H
  unfold Y
  iintro ⟨⟨HU, HX, HO⟩, -, HI⟩
  ihave H := (hx ((c : Thread nD τ).loc main_arg0) (Xv m c)) $$ [HX HI]
  · isplitl [HX] <;> iassumption
  icases H with ⟨%h1, HI⟩
  ihave H := (hx ((c : Thread nD τ).loc main_v1) (Tv m c)) $$ [HO HI]
  · isplitl [HO] <;> iassumption
  icases H with ⟨%h2, HI⟩
  imod (Pipeline.unscopedSems0_read (X := unscopedSems0 c) (c := c) fupd_intro s') $$ [HU HI] with ⟨%h3, HI⟩
  · isplitl [HU] <;> iassumption
  imodintro
  isplitr; · ipureintro; exact ⟨h1, h2, h3⟩
  iexact HI

theorem hmain (c : Dev nD) : main (F := F) c = .op (.customCall (Pipeline.entry 0) ()) fun _ => .ret ⟨⟩ := rfl

set_option maxRecDepth 65536 in
/-- Every fair run ends, with the argument unchanged, the result computed and every counter at zero. -/
theorem run_main : θ_run defs (onTc (τ := τ) (main (F := F))) ⟨m, fun _ => 0, g⟩ (fun r => (∀ c : Dev nD,
    r.2.mem ((c : Thread nD τ).loc main_arg0) = m ((c : Thread nD τ).loc main_arg0) ∧ r.2.mem ((c : Thread nD τ).loc main_v1) = Tv m c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m g main
    (hmain := hmain) (hbody := body_obligation m) (hne := fun w => w.elim0) (harr := arr_whole0) (hstage := stage_whole0)
    (hshare := fun _ w => w.elim0) (hdistinct := winFacts0.arr_inj)
    (O₀ := fun c => Ow c 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HC⟩
      imod (fund_cells m) $$ HC with HG
      imodintro
      isplitl [HP] <;> iassumption)
    (hglob := glob m) (hA := fun _ w => w.elim0) (hpf := fun _ k => k.elim0)
    (X := X m) (Y := Y m) (Z := fun _ => iprop(emp))
    (hX := hX m g) (hin := hin m) (hout := hout m)
    (QY := QY m) (hY := hY m)
    (hQ := fun s h hs => ⟨fun c => ⟨(h c).2.2.1, (h c).2.2.2.1⟩, sem_eq_zero hs fun c => (h c).2.2.2.2⟩)

end Cert.KernelIdeal.Own

end
-- ==== Proof.Value.lean ====
/-
The value: what a device ends up with, and what the reference computes, is the sum of the two halves of the array.
-/
module

public import proofs.«01_k».proof.Defs
public import proofs.«01_k».proof.Proof.Ideal.Common
public import proofs.«01_k».proof.Proof.Gen.ReferenceIdeal
public import Idealize.ShloMosaic.Lib.IdealHost
public import Idealize.ShloMosaic.Lib.Pipeline.Value
public import Idealize.ShloMosaic.Lib.Pointwise.Reduce

@[expose] public section

noncomputable section

namespace Cert.Sum

open Idealize.ShloMosaic Idealize.ShloMosaic.TcCoe
open Cert.KernelIdeal (nD τ sig main_arg0 S4096x1024)
open Cert.KernelIdeal.Own (nx qd src up dn Xv Qv Sv Dv Tv lt_o at_o)

/-- The index in half `b` of the whole array. -/
def row (b : Fin 2) (i : S4096x1024.Idx) : (⟨2, ![8192, 1024]⟩ : Shape).Idx :=
  ix2 ⟨b.val * 4096 + (i 0).val, by have := (lt_o i).1; have := b.isLt; omega⟩ (i 1)

/-- The sum of the two halves. -/
def sumV (X : FVec Ideal ⟨2, ![8192, 1024]⟩ .f32) : FVec Ideal S4096x1024 .bf16 := fun i =>
  (show EReal from X (row 0 i)) + (show EReal from X (row 1 i))

theorem qd_src : ∀ (c : Dev nD) (q : Fin 4) (k : Fin 8), qd (src c q k) = q := by decide +kernel
/-- Along x, a device holds one half and its neighbour the other. -/
theorem halves : ∀ c : Dev nD, (c.val / 4 = 0 ∧ (nx c).val / 4 = 1) ∨ (c.val / 4 = 1 ∧ (nx c).val / 4 = 0) := by decide +kernel
theorem half_of : ∀ c : Dev nD, ((Layout.meshBlock [2, 2, 2] ![[0], []] c : (b : Fin 2) → _) 0).val = c.val / 4
    ∧ ((Layout.meshBlock [2, 2, 2] ![[0], []] c : (b : Fin 2) → _) 1).val = 0 := by decide +kernel

/-- Every device's argument is its half of the whole array. -/
def Cut (m : (ℓ : Loc nD τ sig) → Buf (Elt Ideal) ℓ) (X : FVec Ideal ⟨2, ![8192, 1024]⟩ .f32) : Prop :=
  ∀ c : Dev nD, m (c.tc.loc main_arg0) = Layout.blockN ⟨2, ![4096, 1024]⟩ ⟨2, ![8192, 1024]⟩ (Layout.meshBlock [2, 2, 2] ![[0], []] c) X

section Kernel

variable {m : (ℓ : Loc nD τ sig) → Buf (Elt Ideal) ℓ} {X : FVec Ideal ⟨2, ![8192, 1024]⟩ .f32}
  (hX : Cut m X)
include hX

theorem arg_at (c : Dev nD) (b : Fin 2) (hb : c.val / 4 = b.val) (i : S4096x1024.Idx) : Xv m c i = X (row b i) := by
  unfold Xv
  rw [hX c, Layout.blockN_apply]
  congr 1
  funext a
  obtain ⟨h0, h1⟩ := half_of c
  refine Fin.ext ?_
  rw [Layout.TilesN.idx_val]
  match a with
  | ⟨0, _⟩ =>
    show ((Layout.meshBlock [2, 2, 2] ![[0], []] c : (b : Fin 2) → _) 0).val * 4096 + (i 0).val = b.val * 4096 + (i 0).val
    rw [h0, hb]
  | ⟨1, _⟩ =>
    show ((Layout.meshBlock [2, 2, 2] ![[0], []] c : (b : Fin 2) → _) 1).val * 1024 + (i 1).val = (i 1).val
    rw [h1]; omega

theorem kernel_value (c : Dev nD) : Tv m c = sumV X := by
  funext i
  have hi := lt_o i
  unfold Tv
  generalize hd : src c ⟨(i 0).val / 1024, _⟩ ⟨(i 1).val / 128, _⟩ = d
  have hq : (qd d).val = (i 0).val / 1024 := by rw [← hd, qd_src]
  have hu (e : Dev nD) (he : qd e = qd d) : Xv m e (up (qd e) (dn i)) = Xv m e i :=
    at_o (Xv m e) (by rw [he]; show 1024 * (qd d).val + (i 0).val % 1024 = _; omega) rfl
  show (show EReal from Xv m d (up (qd d) (dn i))) + (show EReal from Xv m (nx d) (up (qd (nx d)) (dn i))) = sumV X i
  rw [hu d rfl, hu (nx d) (Cert.KernelIdeal.Own.qd_nx d)]
  unfold sumV
  rcases halves d with ⟨h, h'⟩ | ⟨h, h'⟩
  · rw [arg_at hX d 0 h, arg_at hX (nx d) 1 h']
  · rw [arg_at hX d 1 h, arg_at hX (nx d) 0 h', add_comm]

end Kernel

section Reference

open Cert.ReferenceIdeal Cert.ReferenceIdeal.Gen

theorem reference_value (X : FVec Ideal ⟨2, ![8192, 1024]⟩ .f32) :
    truncf .bf16 (Host.reduceAdd (shapeCast _ X shapeCasts_S8192x1024_S2x4096x1024) (constant S_ .f32 0x00000000#32)
      reducesTo_S2x4096x1024_S4096x1024_d0 h_S_) bitsLt_bf16_f32 = sumV X := by
  funext i
  have hi := lt_o i
  have hc (b : Fin 2) (j : S2x4096x1024.Idx) (h0 : (j 0).val = b.val) (h1 : (j 1).val = (i 0).val) (h2 : (j 2).val = (i 1).val) :
      shapeCast S2x4096x1024 X shapeCasts_S8192x1024_S2x4096x1024 j = X (row b i) :=
    shapeCast_apply X _ j _ (by
      rw [Shape.rowMajor_val_two, Shape.rowMajor_val_three, h0, h1, h2]
      rfl)
  show Ideal.hostReduceAdd reducesTo_S2x4096x1024_S4096x1024_d0 (shapeCast S2x4096x1024 X shapeCasts_S8192x1024_S2x4096x1024)
    (Ideal.ofBits .f32 0#32) i = _
  rw [Ideal.hostReduceAdd_r3_a0, show Ideal.ofBits .f32 0#32 = 0 from Ideal.ofBits_zero_f32, zero_add, Fin.sum_univ_two,
    hc 0 _ rfl rfl rfl, hc 1 _ rfl rfl rfl]
  rfl

end Reference

end Cert.Sum

end
-- ==== Proof.lean ====
/-
The five claims: both kernels and the reference end without fault, with their arguments unchanged and every semaphore
counter at zero; the ideal kernel is the kernel over the extended reals; and the ideal kernel leaves on every device
what the reference computes, the sum of the two halves of the array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Launch
public import proofs.«01_k».proof.Proof.Ideal.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem frame_kernel : quiescent_Kernel := fun m g _ =>
  (θ_run _ _ _).mono (fun _ h => ⟨fun c => (h.1 c).1, h.2⟩) (Cert.Kernel.Own.run_main m g)

theorem frame_ideal : quiescent_KernelIdeal := fun m g _ =>
  (θ_run _ _ _).mono (fun _ h => ⟨fun c => (h.1 c).1, h.2⟩) (Cert.KernelIdeal.Own.run_main m g)

theorem frame_reference : quiescent_ReferenceIdeal := fun m g _ =>
  (θ_run _ _ _).mono (fun r h => ⟨fun c => (h c).2, sem_eq_zero_of_no_sems rfl r.2⟩) (Cert.ReferenceIdeal.Value.run m g)

/-- Every device ends with the reference's sum. -/
theorem sums_agree : algebraic_KernelIdeal_ReferenceIdeal := fun m g m' g' _ hX =>
  ⟨Cert.Sum.sumV (m' ((0 : Dev Cert.ReferenceIdeal.nD).tc.loc Cert.ReferenceIdeal.main_arg0)),
    (θ_run _ _ _).mono (fun _ h c => ⟨(h.1 c).2.trans (Cert.Sum.kernel_value hX c), (h.1 c).1⟩) (Cert.KernelIdeal.Own.run_main m g),
    (θ_run _ _ _).mono (fun _ h => ⟨(h 0).1.trans (Cert.Sum.reference_value _), (h 0).2⟩) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, sums_agree⟩

end Cert.Proof

end
